-- ==== Defs.lean ====
def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilRefIdeal (m : (ℓ : Loc Cert.DilRefIdeal.nD Cert.DilRefIdeal.τ Cert.DilRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7)
      ∧ r.2.mem ((c.tc : Thread Cert.Final.nD Cert.Final.τ).loc Cert.Final.main_arg8) = m ((c.tc : Thread Cert.Final.nD Cert.Final.τ).loc Cert.Final.main_arg8)
      ∧ r.2.mem ((c.tc : Thread Cert.Final.nD Cert.Final.τ).loc Cert.Final.main_arg9) = m ((c.tc : Thread Cert.Final.nD Cert.Final.τ).loc Cert.Final.main_arg9)
      ∧ r.2.mem ((c.tc : Thread Cert.Final.nD Cert.Final.τ).loc Cert.Final.main_arg10) = m ((c.tc : Thread Cert.Final.nD Cert.Final.τ).loc Cert.Final.main_arg10)
      ∧ r.2.mem ((c.tc : Thread Cert.Final.nD Cert.Final.τ).loc Cert.Final.main_arg11) = m ((c.tc : Thread Cert.Final.nD Cert.Final.τ).loc Cert.Final.main_arg11))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
      ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7)
      ∧ r.2.mem ((c.tc : Thread Cert.FinalRefIdeal.nD Cert.FinalRefIdeal.τ).loc Cert.FinalRefIdeal.main_arg8) = m ((c.tc : Thread Cert.FinalRefIdeal.nD Cert.FinalRefIdeal.τ).loc Cert.FinalRefIdeal.main_arg8)
      ∧ r.2.mem ((c.tc : Thread Cert.FinalRefIdeal.nD Cert.FinalRefIdeal.τ).loc Cert.FinalRefIdeal.main_arg9) = m ((c.tc : Thread Cert.FinalRefIdeal.nD Cert.FinalRefIdeal.τ).loc Cert.FinalRefIdeal.main_arg9)
      ∧ r.2.mem ((c.tc : Thread Cert.FinalRefIdeal.nD Cert.FinalRefIdeal.τ).loc Cert.FinalRefIdeal.main_arg10) = m ((c.tc : Thread Cert.FinalRefIdeal.nD Cert.FinalRefIdeal.τ).loc Cert.FinalRefIdeal.main_arg10)
      ∧ r.2.mem ((c.tc : Thread Cert.FinalRefIdeal.nD Cert.FinalRefIdeal.τ).loc Cert.FinalRefIdeal.main_arg11) = m ((c.tc : Thread Cert.FinalRefIdeal.nD Cert.FinalRefIdeal.τ).loc Cert.FinalRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1)
      ∧ r.2.mem ((c.tc : Thread Cert.ProjKv.nD Cert.ProjKv.τ).loc Cert.ProjKv.main_arg2) = m ((c.tc : Thread Cert.ProjKv.nD Cert.ProjKv.τ).loc Cert.ProjKv.main_arg2)
      ∧ r.2.mem ((c.tc : Thread Cert.ProjKv.nD Cert.ProjKv.τ).loc Cert.ProjKv.main_arg3) = m ((c.tc : Thread Cert.ProjKv.nD Cert.ProjKv.τ).loc Cert.ProjKv.main_arg3)
      ∧ r.2.mem ((c.tc : Thread Cert.ProjKv.nD Cert.ProjKv.τ).loc Cert.ProjKv.main_arg4) = m ((c.tc : Thread Cert.ProjKv.nD Cert.ProjKv.τ).loc Cert.ProjKv.main_arg4))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
      ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
      ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3)
      ∧ r.2.mem ((c.tc : Thread Cert.ProjKvIdeal.nD Cert.ProjKvIdeal.τ).loc Cert.ProjKvIdeal.main_arg4) = m ((c.tc : Thread Cert.ProjKvIdeal.nD Cert.ProjKvIdeal.τ).loc Cert.ProjKvIdeal.main_arg4))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1)
      ∧ r.2.mem ((c.tc : Thread Cert.ProjKvRefIdeal.nD Cert.ProjKvRefIdeal.τ).loc Cert.ProjKvRefIdeal.main_arg2) = m ((c.tc : Thread Cert.ProjKvRefIdeal.nD Cert.ProjKvRefIdeal.τ).loc Cert.ProjKvRefIdeal.main_arg2)
      ∧ r.2.mem ((c.tc : Thread Cert.ProjKvRefIdeal.nD Cert.ProjKvRefIdeal.τ).loc Cert.ProjKvRefIdeal.main_arg3) = m ((c.tc : Thread Cert.ProjKvRefIdeal.nD Cert.ProjKvRefIdeal.τ).loc Cert.ProjKvRefIdeal.main_arg3)
      ∧ r.2.mem ((c.tc : Thread Cert.ProjKvRefIdeal.nD Cert.ProjKvRefIdeal.τ).loc Cert.ProjKvRefIdeal.main_arg4) = m ((c.tc : Thread Cert.ProjKvRefIdeal.nD Cert.ProjKvRefIdeal.τ).loc Cert.ProjKvRefIdeal.main_arg4))
      ∧ r.2.sem = fun _ => 0)

def preserves_Dil_DilIdeal : Prop :=
  True

def algebraic_DilIdeal_DilRefIdeal [hDilIdeal : Cert.DilIdeal.Facts] [hDilRefIdeal : Cert.DilRefIdeal.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)
      ∧ m' ((c.tc : Thread Cert.DilRefIdeal.nD Cert.DilRefIdeal.τ).loc Cert.DilRefIdeal.main_arg2) = m ((c.tc : Thread Cert.DilIdeal.nD Cert.DilIdeal.τ).loc Cert.DilIdeal.main_arg2)) →
    ∃ (v0 : (c : Dev Cert.DilIdeal.nD) → Buf (Elt Ideal) ((c.tc : Thread Cert.DilIdeal.nD Cert.DilIdeal.τ).loc Cert.DilIdeal.main_v9_0)) (v1 : (c : Dev Cert.DilIdeal.nD) → Buf (Elt Ideal) ((c.tc : Thread Cert.DilIdeal.nD Cert.DilIdeal.τ).loc Cert.DilIdeal.main_v9_1)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v9_0) = v0 c
          ∧ r.2.mem ((c.tc : Thread Cert.DilIdeal.nD Cert.DilIdeal.τ).loc Cert.DilIdeal.main_v9_1) = v1 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
          ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v90) = v0 c
          ∧ r.2.mem ((c.tc : Thread Cert.DilRefIdeal.nD Cert.DilRefIdeal.τ).loc Cert.DilRefIdeal.main_v92) = v1 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1)
          ∧ r.2.mem ((c.tc : Thread Cert.DilRefIdeal.nD Cert.DilRefIdeal.τ).loc Cert.DilRefIdeal.main_arg2) = m' ((c.tc : Thread Cert.DilRefIdeal.nD Cert.DilRefIdeal.τ).loc Cert.DilRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v9)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v29) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)
      ∧ m' ((c.tc : Thread Cert.FinalRefIdeal.nD Cert.FinalRefIdeal.τ).loc Cert.FinalRefIdeal.main_arg7) = m ((c.tc : Thread Cert.FinalIdeal.nD Cert.FinalIdeal.τ).loc Cert.FinalIdeal.main_arg7)
      ∧ m' ((c.tc : Thread Cert.FinalRefIdeal.nD Cert.FinalRefIdeal.τ).loc Cert.FinalRefIdeal.main_arg8) = m ((c.tc : Thread Cert.FinalIdeal.nD Cert.FinalIdeal.τ).loc Cert.FinalIdeal.main_arg8)
      ∧ m' ((c.tc : Thread Cert.FinalRefIdeal.nD Cert.FinalRefIdeal.τ).loc Cert.FinalRefIdeal.main_arg9) = m ((c.tc : Thread Cert.FinalIdeal.nD Cert.FinalIdeal.τ).loc Cert.FinalIdeal.main_arg9)
      ∧ m' ((c.tc : Thread Cert.FinalRefIdeal.nD Cert.FinalRefIdeal.τ).loc Cert.FinalRefIdeal.main_arg10) = m ((c.tc : Thread Cert.FinalIdeal.nD Cert.FinalIdeal.τ).loc Cert.FinalIdeal.main_arg10)
      ∧ m' ((c.tc : Thread Cert.FinalRefIdeal.nD Cert.FinalRefIdeal.τ).loc Cert.FinalRefIdeal.main_arg11) = m ((c.tc : Thread Cert.FinalIdeal.nD Cert.FinalIdeal.τ).loc Cert.FinalIdeal.main_arg11)) →
    ∃ (v0 : (c : Dev Cert.FinalIdeal.nD) → Buf (Elt Ideal) ((c.tc : Thread Cert.FinalIdeal.nD Cert.FinalIdeal.τ).loc Cert.FinalIdeal.main_v19)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v19) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
          ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
          ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
          ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
          ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v71) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7)
          ∧ r.2.mem ((c.tc : Thread Cert.FinalRefIdeal.nD Cert.FinalRefIdeal.τ).loc Cert.FinalRefIdeal.main_arg8) = m' ((c.tc : Thread Cert.FinalRefIdeal.nD Cert.FinalRefIdeal.τ).loc Cert.FinalRefIdeal.main_arg8)
          ∧ r.2.mem ((c.tc : Thread Cert.FinalRefIdeal.nD Cert.FinalRefIdeal.τ).loc Cert.FinalRefIdeal.main_arg9) = m' ((c.tc : Thread Cert.FinalRefIdeal.nD Cert.FinalRefIdeal.τ).loc Cert.FinalRefIdeal.main_arg9)
          ∧ r.2.mem ((c.tc : Thread Cert.FinalRefIdeal.nD Cert.FinalRefIdeal.τ).loc Cert.FinalRefIdeal.main_arg10) = m' ((c.tc : Thread Cert.FinalRefIdeal.nD Cert.FinalRefIdeal.τ).loc Cert.FinalRefIdeal.main_arg10)
          ∧ r.2.mem ((c.tc : Thread Cert.FinalRefIdeal.nD Cert.FinalRefIdeal.τ).loc Cert.FinalRefIdeal.main_arg11) = m' ((c.tc : Thread Cert.FinalRefIdeal.nD Cert.FinalRefIdeal.τ).loc Cert.FinalRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v25) = v1 c
          ∧ r.2.mem ((c.tc : Thread Cert.ProjRefIdeal.nD Cert.ProjRefIdeal.τ).loc Cert.ProjRefIdeal.main_v26) = v2 c
          ∧ r.2.mem ((c.tc : Thread Cert.ProjRefIdeal.nD Cert.ProjRefIdeal.τ).loc Cert.ProjRefIdeal.main_v21) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)
      ∧ m' ((c.tc : Thread Cert.ProjKvRefIdeal.nD Cert.ProjKvRefIdeal.τ).loc Cert.ProjKvRefIdeal.main_arg2) = m ((c.tc : Thread Cert.ProjKvIdeal.nD Cert.ProjKvIdeal.τ).loc Cert.ProjKvIdeal.main_arg2)
      ∧ m' ((c.tc : Thread Cert.ProjKvRefIdeal.nD Cert.ProjKvRefIdeal.τ).loc Cert.ProjKvRefIdeal.main_arg3) = m ((c.tc : Thread Cert.ProjKvIdeal.nD Cert.ProjKvIdeal.τ).loc Cert.ProjKvIdeal.main_arg3)
      ∧ m' ((c.tc : Thread Cert.ProjKvRefIdeal.nD Cert.ProjKvRefIdeal.τ).loc Cert.ProjKvRefIdeal.main_arg4) = m ((c.tc : Thread Cert.ProjKvIdeal.nD Cert.ProjKvIdeal.τ).loc Cert.ProjKvIdeal.main_arg4)) →
    ∃ (v0 : (c : Dev Cert.ProjKvIdeal.nD) → Buf (Elt Ideal) ((c.tc : Thread Cert.ProjKvIdeal.nD Cert.ProjKvIdeal.τ).loc Cert.ProjKvIdeal.main_v10_0)) (v1 : (c : Dev Cert.ProjKvIdeal.nD) → Buf (Elt Ideal) ((c.tc : Thread Cert.ProjKvIdeal.nD Cert.ProjKvIdeal.τ).loc Cert.ProjKvIdeal.main_v10_1)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v10_0) = v0 c
          ∧ r.2.mem ((c.tc : Thread Cert.ProjKvIdeal.nD Cert.ProjKvIdeal.τ).loc Cert.ProjKvIdeal.main_v10_1) = v1 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1)
          ∧ r.2.mem ((c.tc : Thread Cert.ProjKvIdeal.nD Cert.ProjKvIdeal.τ).loc Cert.ProjKvIdeal.main_arg2) = m ((c.tc : Thread Cert.ProjKvIdeal.nD Cert.ProjKvIdeal.τ).loc Cert.ProjKvIdeal.main_arg2)
          ∧ r.2.mem ((c.tc : Thread Cert.ProjKvIdeal.nD Cert.ProjKvIdeal.τ).loc Cert.ProjKvIdeal.main_arg3) = m ((c.tc : Thread Cert.ProjKvIdeal.nD Cert.ProjKvIdeal.τ).loc Cert.ProjKvIdeal.main_arg3)
          ∧ r.2.mem ((c.tc : Thread Cert.ProjKvIdeal.nD Cert.ProjKvIdeal.τ).loc Cert.ProjKvIdeal.main_arg4) = m ((c.tc : Thread Cert.ProjKvIdeal.nD Cert.ProjKvIdeal.τ).loc Cert.ProjKvIdeal.main_arg4))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v33) = v0 c
          ∧ r.2.mem ((c.tc : Thread Cert.ProjKvRefIdeal.nD Cert.ProjKvRefIdeal.τ).loc Cert.ProjKvRefIdeal.main_v34) = v1 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1)
          ∧ r.2.mem ((c.tc : Thread Cert.ProjKvRefIdeal.nD Cert.ProjKvRefIdeal.τ).loc Cert.ProjKvRefIdeal.main_arg2) = m' ((c.tc : Thread Cert.ProjKvRefIdeal.nD Cert.ProjKvRefIdeal.τ).loc Cert.ProjKvRefIdeal.main_arg2)
          ∧ r.2.mem ((c.tc : Thread Cert.ProjKvRefIdeal.nD Cert.ProjKvRefIdeal.τ).loc Cert.ProjKvRefIdeal.main_arg3) = m' ((c.tc : Thread Cert.ProjKvRefIdeal.nD Cert.ProjKvRefIdeal.τ).loc Cert.ProjKvRefIdeal.main_arg3)
          ∧ r.2.mem ((c.tc : Thread Cert.ProjKvRefIdeal.nD Cert.ProjKvRefIdeal.τ).loc Cert.ProjKvRefIdeal.main_arg4) = m' ((c.tc : Thread Cert.ProjKvRefIdeal.nD Cert.ProjKvRefIdeal.τ).loc Cert.ProjKvRefIdeal.main_arg4))

def Claim : Prop :=
  ∃ (hDil : Cert.Dil.Facts) (hDilIdeal : Cert.DilIdeal.Facts) (hDilRefIdeal : Cert.DilRefIdeal.Facts) (hPost : Cert.Post.Facts) (hPostIdeal : Cert.PostIdeal.Facts) (hPostRefIdeal : Cert.PostRefIdeal.Facts) (hFinal : Cert.Final.Facts) (hFinalIdeal : Cert.FinalIdeal.Facts) (hFinalRefIdeal : Cert.FinalRefIdeal.Facts) (hProj : Cert.Proj.Facts) (hProjIdeal : Cert.ProjIdeal.Facts) (hProjRefIdeal : Cert.ProjRefIdeal.Facts) (hProjKv : Cert.ProjKv.Facts) (hProjKvIdeal : Cert.ProjKvIdeal.Facts) (hProjKvRefIdeal : Cert.ProjKvRefIdeal.Facts),
    quiescent_Dil (hDil := hDil)
    ∧ quiescent_DilIdeal (hDilIdeal := hDilIdeal)
    ∧ quiescent_DilRefIdeal (hDilRefIdeal := hDilRefIdeal)
    ∧ quiescent_Post (hPost := hPost)
    ∧ quiescent_PostIdeal (hPostIdeal := hPostIdeal)
    ∧ quiescent_PostRefIdeal (hPostRefIdeal := hPostRefIdeal)
    ∧ quiescent_Final (hFinal := hFinal)
    ∧ quiescent_FinalIdeal (hFinalIdeal := hFinalIdeal)
    ∧ quiescent_FinalRefIdeal (hFinalRefIdeal := hFinalRefIdeal)
    ∧ quiescent_Proj (hProj := hProj)
    ∧ quiescent_ProjIdeal (hProjIdeal := hProjIdeal)
    ∧ quiescent_ProjRefIdeal (hProjRefIdeal := hProjRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ preserves_Dil_DilIdeal
    ∧ algebraic_DilIdeal_DilRefIdeal (hDilIdeal := hDilIdeal) (hDilRefIdeal := hDilRefIdeal)
    ∧ preserves_Post_PostIdeal
    ∧ algebraic_PostIdeal_PostRefIdeal (hPostIdeal := hPostIdeal) (hPostRefIdeal := hPostRefIdeal)
    ∧ preserves_Final_FinalIdeal
    ∧ algebraic_FinalIdeal_FinalRefIdeal (hFinalIdeal := hFinalIdeal) (hFinalRefIdeal := hFinalRefIdeal)
    ∧ preserves_Proj_ProjIdeal
    ∧ algebraic_ProjIdeal_ProjRefIdeal (hProjIdeal := hProjIdeal) (hProjRefIdeal := hProjRefIdeal)
    ∧ preserves_ProjKv_ProjKvIdeal
    ∧ algebraic_ProjKvIdeal_ProjKvRefIdeal (hProjKvIdeal := hProjKvIdeal) (hProjKvRefIdeal := hProjKvRefIdeal)
-- ==== Dil.lean ====
abbrev S65536x3072 : Shape := ⟨2, ![65536, 3072]⟩
abbrev S65536x1536 : Shape := ⟨2, ![65536, 1536]⟩
abbrev S4x2x512x128 : Shape := ⟨4, ![4, 2, 512, 128]⟩
abbrev S65536x1024 : Shape := ⟨2, ![65536, 1024]⟩
abbrev S32x128x16x16x64 : Shape := ⟨5, ![32, 128, 16, 16, 64]⟩
abbrev S32x16x16x128x64 : Shape := ⟨5, ![32, 16, 16, 128, 64]⟩
abbrev S65536x256 : Shape := ⟨2, ![65536, 256]⟩
abbrev S32x128x16x4x64 : Shape := ⟨5, ![32, 128, 16, 4, 64]⟩
abbrev S32x16x4x128x64 : Shape := ⟨5, ![32, 16, 4, 128, 64]⟩
abbrev S32x16x4x128x4 : Shape := ⟨5, ![32, 16, 4, 128, 4]⟩
abbrev S1x16x4x128x64 : Shape := ⟨5, ![1, 16, 4, 128, 64]⟩
abbrev S1x16x1x128x64 : Shape := ⟨5, ![1, 16, 1, 128, 64]⟩
abbrev S1x2x512x128 : Shape := ⟨4, ![1, 2, 512, 128]⟩
abbrev S1x16x1x128x4 : Shape := ⟨5, ![1, 16, 1, 128, 4]⟩
abbrev S1x1x4x128x64 : Shape := ⟨5, ![1, 1, 4, 128, 64]⟩
abbrev S4x128x64 : Shape := ⟨3, ![4, 128, 64]⟩
abbrev S512x64 : Shape := ⟨2, ![512, 64]⟩
abbrev S1x1x1x128x64 : Shape := ⟨5, ![1, 1, 1, 128, 64]⟩
abbrev S128x64 : Shape := ⟨2, ![128, 64]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S128x1 : Shape := ⟨2, ![128, 1]⟩
abbrev S128x4 : Shape := ⟨2, ![128, 4]⟩
abbrev S1x1x1x128x4 : Shape := ⟨5, ![1, 1, 1, 128, 4]⟩

abbrev nBuf : Space → Nat
  | .hbm => 14
  | .vmem => 12
  | .smem => 0
  | _ => 0

abbrev bufTy : (tb : Table) → Fin (tcTables nBuf tb) → BufTy
  | .hbm, ⟨0, _⟩ => ⟨S65536x3072, .bf16⟩
  | .hbm, ⟨1, _⟩ => ⟨S65536x1536, .bf16⟩
  | .hbm, ⟨2, _⟩ => ⟨S4x2x512x128, .f32⟩
  | .hbm, ⟨3, _⟩ => ⟨S65536x1024, .bf16⟩
  | .hbm, ⟨4, _⟩ => ⟨S32x128x16x16x64, .bf16⟩
  | .hbm, ⟨5, _⟩ => ⟨S32x16x16x128x64, .bf16⟩
  | .hbm, ⟨6, _⟩ => ⟨S65536x256, .bf16⟩
  | .hbm, ⟨7, _⟩ => ⟨S32x128x16x4x64, .bf16⟩
  | .hbm, ⟨8, _⟩ => ⟨S32x16x4x128x64, .bf16⟩
  | .hbm, ⟨9, _⟩ => ⟨S65536x256, .bf16⟩
  | .hbm, ⟨10, _⟩ => ⟨S32x128x16x4x64, .bf16⟩
  | .hbm, ⟨11, _⟩ => ⟨S32x16x4x128x64, .bf16⟩
  | .hbm, ⟨12, _⟩ => ⟨S32x16x16x128x64, .bf16⟩
  | .hbm, ⟨13, _⟩ => ⟨S32x16x4x128x4, .f32⟩
  | .local _ .vmem, ⟨0, _⟩ => ⟨S1x16x4x128x64, .bf16⟩
  | .local _ .vmem, ⟨1, _⟩ => ⟨S1x16x4x128x64, .bf16⟩
  | .local _ .vmem, ⟨2, _⟩ => ⟨S1x16x1x128x64, .bf16⟩
  | .local _ .vmem, ⟨3, _⟩ => ⟨S1x16x1x128x64, .bf16⟩
  | .local _ .vmem, ⟨4, _⟩ => ⟨S1x16x1x128x64, .bf16⟩
  | .local _ .vmem, ⟨5, _⟩ => ⟨S1x16x1x128x64, .bf16⟩
  | .local _ .vmem, ⟨6, _⟩ => ⟨S1x2x512x128, .f32⟩
  | .local _ .vmem, ⟨7, _⟩ => ⟨S1x2x512x128, .f32⟩
  | .local _ .vmem, ⟨8, _⟩ => ⟨S1x16x4x128x64, .bf16⟩
  | .local _ .vmem, ⟨9, _⟩ => ⟨S1x16x4x128x64, .bf16⟩
  | .local _ .vmem, ⟨10, _⟩ => ⟨S1x16x1x128x4, .f32⟩
  | .local _ .vmem, ⟨11, _⟩ => ⟨S1x16x1x128x4, .f32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1_i32_8 : BitVec 32 := 1#32
  let c0_i32_9 : BitVec 32 := 0#32
  let v18 : BitVec 1 := Scalar.cmpi .eq c1_i32_8 c0_i32_9
  let c1_i32_10 : BitVec 32 := 1#32
  let v19 : BitVec 32 := Scalar.select v18 c1_i32_10 c1_i32_8
  let v20 : BitVec 32 := Scalar.remsi arg8 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c128_i32 : BitVec 32 := 128#32
  let v28 : BitVec 32 := Scalar.muli v27 c128_i32
  v28
def k0_off1 (k0_t1 : Fin k0_t1_loop.trips) : Fin 5 → Nat :=
  let c0 : Index := 0#32
  let c0_i32 : BitVec 32 := 0#32
  let c1_i32 : BitVec 32 := 1#32
  let arg8 : BitVec 32 := Scf.iv c0_i32 c1_i32 k0_t1
  let c0_i32_2 : BitVec 32 := 0#32
  let v2 : BitVec 1 := Scalar.cmpi .sgt arg8 c0_i32_2
  let v3 : BitVec 32 := Scalar.extui v2
  let c0_i32_3 : BitVec 32 := 0#32
  let v4 : BitVec 1 := Scalar.cmpi .slt arg8 c0_i32_3
  let v5 : BitVec 32 := Scalar.extui v4
  let v6 : BitVec 32 := Scalar.subi v3 v5
  let c1_i32_1 : BitVec 32 := 1#32
  let c0_i32_4 : BitVec 32 := 0#32
  let v7 : BitVec 1 := Scalar.cmpi .sgt c1_i32_1 c0_i32_4
  let v8 : BitVec 32 := Scalar.extui v7
  let c0_i32_5 : BitVec 32 := 0#32
  let v9 : BitVec 1 := Scalar.cmpi .slt c1_i32_1 c0_i32_5
  let v10 : BitVec 32 := Scalar.extui v9
  let v11 : BitVec 32 := Scalar.subi v8 v10
  let v12 : BitVec 1 := Scalar.cmpi .ne v6 v11
  let v13 : BitVec 32 := Scalar.remsi arg8 c1_i32_1
  let c0_i32_6 : BitVec 32 := 0#32
  let v14 : BitVec 1 := Scalar.cmpi .ne v13 c0_i32_6
  let v15 : BitVec 1 := Scalar.andi v12 v14
  let v1 : BitVec 32 := Scalar.divsi arg8 c1_i32_1
  let c1_i32_7 : BitVec 32 := 1#32
  let v16 : BitVec 32 := Scalar.subi v1 c1_i32_7
  let v17 : BitVec 32 := Scalar.select v15 v16 v1
  let v30 : Index := Scalar.indexCast v17
  let c0_14 : Index := 0#32
  let c1_i32_8 : BitVec 32 := 1#32
  let c0_i32_9 : BitVec 32 := 0#32
  let v18 : BitVec 1 := Scalar.cmpi .eq c1_i32_8 c0_i32_9
  let c1_i32_10 : BitVec 32 := 1#32
  let v19 : BitVec 32 := Scalar.select v18 c1_i32_10 c1_i32_8
  let v20 : BitVec 32 := Scalar.remsi arg8 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c128_i32 : BitVec 32 := 128#32
  let v28 : BitVec 32 := Scalar.muli v27 c128_i32
  let v29 : BitVec 32 := v28
  let v31 : Index := Scalar.indexCast v29
  let c0_15 : Index := 0#32
  ![0, v30.toNat, 0, v31.toNat, 0]
def k0_off2 (k0_t1 : Fin k0_t1_loop.trips) : Fin 5 → Nat :=
  let c0_16 : Index := 0#32
  let c0_i32 : BitVec 32 := 0#32
  let c1_i32 : BitVec 32 := 1#32
  let arg8 : BitVec 32 := Scf.iv c0_i32 c1_i32 k0_t1
  let c0_i32_2 : BitVec 32 := 0#32
  let v2 : BitVec 1 := Scalar.cmpi .sgt arg8 c0_i32_2
  let v3 : BitVec 32 := Scalar.extui v2
  let c0_i32_3 : BitVec 32 := 0#32
  let v4 : BitVec 1 := Scalar.cmpi .slt arg8 c0_i32_3
  let v5 : BitVec 32 := Scalar.extui v4
  let v6 : BitVec 32 := Scalar.subi v3 v5
  let c1_i32_1 : BitVec 32 := 1#32
  let c0_i32_4 : BitVec 32 := 0#32
  let v7 : BitVec 1 := Scalar.cmpi .sgt c1_i32_1 c0_i32_4
  let v8 : BitVec 32 := Scalar.extui v7
  let c0_i32_5 : BitVec 32 := 0#32
  let v9 : BitVec 1 := Scalar.cmpi .slt c1_i32_1 c0_i32_5
  let v10 : BitVec 32 := Scalar.extui v9
  let v11 : BitVec 32 := Scalar.subi v8 v10
  let v12 : BitVec 1 := Scalar.cmpi .ne v6 v11
  let v13 : BitVec 32 := Scalar.remsi arg8 c1_i32_1
  let c0_i32_6 : BitVec 32 := 0#32
  let v14 : BitVec 1 := Scalar.cmpi .ne v13 c0_i32_6
  let v15 : BitVec 1 := Scalar.andi v12 v14
  let v1 : BitVec 32 := Scalar.divsi arg8 c1_i32_1
  let c1_i32_7 : BitVec 32 := 1#32
  let v16 : BitVec 32 := Scalar.subi v1 c1_i32_7
  let v17 : BitVec 32 := Scalar.select v15 v16 v1
  let v35 : Index := Scalar.indexCast v17
  let c0_17 : Index := 0#32
  let c1_i32_8 : BitVec 32 := 1#32
  let c0_i32_9 : BitVec 32 := 0#32
  let v18 : BitVec 1 := Scalar.cmpi .eq c1_i32_8 c0_i32_9
  let c1_i32_10 : BitVec 32 := 1#32
  let v19 : BitVec 32 := Scalar.select v18 c1_i32_10 c1_i32_8
  let v20 : BitVec 32 := Scalar.remsi arg8 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c128_i32 : BitVec 32 := 128#32
  let v28 : BitVec 32 := Scalar.muli v27 c128_i32
  let v29 : BitVec 32 := v28
  let v36 : Index := Scalar.indexCast v29
  let c0_18 : Index := 0#32
  ![0, v35.toNat, 0, v36.toNat, 0]
def k0_off3 (k0_t1 : Fin k0_t1_loop.trips) : Fin 5 → Nat :=
  let c0_31 : Index := 0#32
  let c0_i32 : BitVec 32 := 0#32
  let c1_i32 : BitVec 32 := 1#32
  let arg8 : BitVec 32 := Scf.iv c0_i32 c1_i32 k0_t1
  let c0_i32_2 : BitVec 32 := 0#32
  let v2 : BitVec 1 := Scalar.cmpi .sgt arg8 c0_i32_2
  let v3 : BitVec 32 := Scalar.extui v2
  let c0_i32_3 : BitVec 32 := 0#32
  let v4 : BitVec 1 := Scalar.cmpi .slt arg8 c0_i32_3
  let v5 : BitVec 32 := Scalar.extui v4
  let v6 : BitVec 32 := Scalar.subi v3 v5
  let c1_i32_1 : BitVec 32 := 1#32
  let c0_i32_4 : BitVec 32 := 0#32
  let v7 : BitVec 1 := Scalar.cmpi .sgt c1_i32_1 c0_i32_4
  let v8 : BitVec 32 := Scalar.extui v7
  let c0_i32_5 : BitVec 32 := 0#32
  let v9 : BitVec 1 := Scalar.cmpi .slt c1_i32_1 c0_i32_5
  let v10 : BitVec 32 := Scalar.extui v9
  let v11 : BitVec 32 := Scalar.subi v8 v10
  let v12 : BitVec 1 := Scalar.cmpi .ne v6 v11
  let v13 : BitVec 32 := Scalar.remsi arg8 c1_i32_1
  let c0_i32_6 : BitVec 32 := 0#32
  let v14 : BitVec 1 := Scalar.cmpi .ne v13 c0_i32_6
  let v15 : BitVec 1 := Scalar.andi v12 v14
  let v1 : BitVec 32 := Scalar.divsi arg8 c1_i32_1
  let c1_i32_7 : BitVec 32 := 1#32
  let v16 : BitVec 32 := Scalar.subi v1 c1_i32_7
  let v17 : BitVec 32 := Scalar.select v15 v16 v1
  let v72 : Index := Scalar.indexCast v17
  let c0_32 : Index := 0#32
  let c1_i32_8 : BitVec 32 := 1#32
  let c0_i32_9 : BitVec 32 := 0#32
  let v18 : BitVec 1 := Scalar.cmpi .eq c1_i32_8 c0_i32_9
  let c1_i32_10 : BitVec 32 := 1#32
  let v19 : BitVec 32 := Scalar.select v18 c1_i32_10 c1_i32_8
  let v20 : BitVec 32 := Scalar.remsi arg8 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c128_i32 : BitVec 32 := 128#32
  let v28 : BitVec 32 := Scalar.muli v27 c128_i32
  let v29 : BitVec 32 := v28
  let v73 : Index := Scalar.indexCast v29
  let c0_33 : Index := 0#32
  ![0, v72.toNat, 0, v73.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x16x4x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1x128x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DilRefIdeal.lean ====
abbrev S65536x3072 : Shape := ⟨2, ![65536, 3072]⟩
abbrev S65536x1536 : Shape := ⟨2, ![65536, 1536]⟩
abbrev S4x2x512x128 : Shape := ⟨4, ![4, 2, 512, 128]⟩
abbrev S32x2048x3x4x4x64 : Shape := ⟨6, ![32, 2048, 3, 4, 4, 64]⟩
abbrev S32x2048x3x2x4x64 : Shape := ⟨6, ![32, 2048, 3, 2, 4, 64]⟩
abbrev S32x2048x3x1x4x64 : Shape := ⟨6, ![32, 2048, 3, 1, 4, 64]⟩
abbrev S32x2048x3x4x64 : Shape := ⟨5, ![32, 2048, 3, 4, 64]⟩
abbrev S32x2048x1x4x4x64 : Shape := ⟨6, ![32, 2048, 1, 4, 4, 64]⟩
abbrev S32x2048x4x4x64 : Shape := ⟨5, ![32, 2048, 4, 4, 64]⟩
abbrev S32x2048x1x4x64 : Shape := ⟨5, ![32, 2048, 1, 4, 64]⟩
abbrev S32x2048x4x64 : Shape := ⟨4, ![32, 2048, 4, 64]⟩
abbrev S32x128x16x4x4x64 : Shape := ⟨6, ![32, 128, 16, 4, 4, 64]⟩
abbrev S32x16x128x4x4x64 : Shape := ⟨6, ![32, 16, 128, 4, 4, 64]⟩
abbrev S512x128x4x4x64 : Shape := ⟨5, ![512, 128, 4, 4, 64]⟩
abbrev S_ : Shape := ⟨0, ![]⟩
abbrev S32x128x16x4x64 : Shape := ⟨5, ![32, 128, 16, 4, 64]⟩
abbrev S32x16x128x4x64 : Shape := ⟨5, ![32, 16, 128, 4, 64]⟩
abbrev S512x128x4x64 : Shape := ⟨4, ![512, 128, 4, 64]⟩
abbrev S512x256x4x64 : Shape := ⟨4, ![512, 256, 4, 64]⟩
abbrev S512x2x128x4x64 : Shape := ⟨5, ![512, 2, 128, 4, 64]⟩
abbrev S512x1x128x4x64 : Shape := ⟨5, ![512, 1, 128, 4, 64]⟩
abbrev S512x1x256x4x64 : Shape := ⟨5, ![512, 1, 256, 4, 64]⟩
abbrev S512x1x128x4x4x64 : Shape := ⟨6, ![512, 1, 128, 4, 4, 64]⟩
abbrev S512x1x4x256x128x4 : Shape := ⟨6, ![512, 1, 4, 256, 128, 4]⟩
abbrev S512x1x4x4x128x256 : Shape := ⟨6, ![512, 1, 4, 4, 128, 256]⟩
abbrev S256 : Shape := ⟨1, ![256]⟩
abbrev S1x256 : Shape := ⟨2, ![1, 256]⟩
abbrev S1 : Shape := ⟨1, ![1]⟩
abbrev S1x1x1 : Shape := ⟨3, ![1, 1, 1]⟩
abbrev S1x1x256 : Shape := ⟨3, ![1, 1, 256]⟩
abbrev S1x128x256 : Shape := ⟨3, ![1, 128, 256]⟩
abbrev S4x2x4x128x128 : Shape := ⟨5, ![4, 2, 4, 128, 128]⟩
abbrev S4x4x128x2x128 : Shape := ⟨5, ![4, 4, 128, 2, 128]⟩
abbrev S4x4x128x256 : Shape := ⟨4, ![4, 4, 128, 256]⟩
abbrev S1x1x4x4x128x256 : Shape := ⟨6, ![1, 1, 4, 4, 128, 256]⟩
abbrev S1x1x1x1x128x256 : Shape := ⟨6, ![1, 1, 1, 1, 128, 256]⟩
abbrev S512x1x4x4x128 : Shape := ⟨5, ![512, 1, 4, 4, 128]⟩
abbrev S512x1x4x4x128x1 : Shape := ⟨6, ![512, 1, 4, 4, 128, 1]⟩
abbrev S512x1x4x64x4x128 : Shape := ⟨6, ![512, 1, 4, 64, 4, 128]⟩
abbrev S512x1x128x4x4 : Shape := ⟨5, ![512, 1, 128, 4, 4]⟩
abbrev S512x1x128x4x4x1 : Shape := ⟨6, ![512, 1, 128, 4, 4, 1]⟩
abbrev S512x128x4x4 : Shape := ⟨4, ![512, 128, 4, 4]⟩
abbrev S32x16x128x4x4 : Shape := ⟨5, ![32, 16, 128, 4, 4]⟩
abbrev S32x128x16x4x4 : Shape := ⟨5, ![32, 128, 16, 4, 4]⟩
abbrev S32x2048x4x4 : Shape := ⟨4, ![32, 2048, 4, 4]⟩
abbrev S32x128x16x16x64 : Shape := ⟨5, ![32, 128, 16, 16, 64]⟩
abbrev S32x16x16x128x64 : Shape := ⟨5, ![32, 16, 16, 128, 64]⟩
abbrev S32x16x4x128x4 : Shape := ⟨5, ![32, 16, 4, 128, 4]⟩

abbrev nBuf : Space → Nat
  | .hbm => 119
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S65536x1536, .bf16⟩
  | .hbm, ⟨2, _⟩ => ⟨S4x2x512x128, .f32⟩
  | .hbm, ⟨3, _⟩ => ⟨S65536x3072, .f32⟩
  | .hbm, ⟨4, _⟩ => ⟨S32x2048x3x4x4x64, .f32⟩
  | .hbm, ⟨5, _⟩ => ⟨S65536x1536, .f32⟩
  | .hbm, ⟨6, _⟩ => ⟨S32x2048x3x2x4x64, .f32⟩
  | .hbm, ⟨7, _⟩ => ⟨S32x2048x3x1x4x64, .f32⟩
  | .hbm, ⟨8, _⟩ => ⟨S32x2048x3x4x64, .f32⟩
  | .hbm, ⟨9, _⟩ => ⟨S32x2048x3x1x4x64, .f32⟩
  | .hbm, ⟨10, _⟩ => ⟨S32x2048x3x4x64, .f32⟩
  | .hbm, ⟨11, _⟩ => ⟨S32x2048x1x4x4x64, .f32⟩
  | .hbm, ⟨12, _⟩ => ⟨S32x2048x4x4x64, .f32⟩
  | .hbm, ⟨13, _⟩ => ⟨S32x2048x1x4x64, .f32⟩
  | .hbm, ⟨14, _⟩ => ⟨S32x2048x4x64, .f32⟩
  | .hbm, ⟨15, _⟩ => ⟨S32x2048x1x4x64, .f32⟩
  | .hbm, ⟨16, _⟩ => ⟨S32x2048x4x64, .f32⟩
  | .hbm, ⟨17, _⟩ => ⟨S32x128x16x4x4x64, .f32⟩
  | .hbm, ⟨18, _⟩ => ⟨S32x16x128x4x4x64, .f32⟩
  | .hbm, ⟨19, _⟩ => ⟨S512x128x4x4x64, .f32⟩
  | .hbm, ⟨20, _⟩ => ⟨S_, .i32⟩
  | .hbm, ⟨21, _⟩ => ⟨S_, .f32⟩
  | .hbm, ⟨22, _⟩ => ⟨S512x128x4x4x64, .f32⟩
  | .hbm, ⟨23, _⟩ => ⟨S32x128x16x4x64, .f32⟩
  | .hbm, ⟨24, _⟩ => ⟨S32x16x128x4x64, .f32⟩
  | .hbm, ⟨25, _⟩ => ⟨S512x128x4x64, .f32⟩
  | .hbm, ⟨26, _⟩ => ⟨S_, .i32⟩
  | .hbm, ⟨27, _⟩ => ⟨S_, .f32⟩
  | .hbm, ⟨28, _⟩ => ⟨S512x128x4x64, .f32⟩
  | .hbm, ⟨29, _⟩ => ⟨S32x128x16x4x64, .f32⟩
  | .hbm, ⟨30, _⟩ => ⟨S32x16x128x4x64, .f32⟩
  | .hbm, ⟨31, _⟩ => ⟨S512x128x4x64, .f32⟩
  | .hbm, ⟨32, _⟩ => ⟨S_, .i32⟩
  | .hbm, ⟨33, _⟩ => ⟨S_, .f32⟩
  | .hbm, ⟨34, _⟩ => ⟨S512x128x4x64, .f32⟩
  | .hbm, ⟨35, _⟩ => ⟨S_, .i32⟩
  | .hbm, ⟨36, _⟩ => ⟨S_, .f32⟩
  | .hbm, ⟨37, _⟩ => ⟨S512x256x4x64, .f32⟩
  | .hbm, ⟨38, _⟩ => ⟨S512x2x128x4x64, .f32⟩
  | .hbm, ⟨39, _⟩ => ⟨S512x1x128x4x64, .f32⟩
  | .hbm, ⟨40, _⟩ => ⟨S512x1x128x4x64, .f32⟩
  | .hbm, ⟨41, _⟩ => ⟨S512x1x256x4x64, .f32⟩
  | .hbm, ⟨42, _⟩ => ⟨S_, .i32⟩
  | .hbm, ⟨43, _⟩ => ⟨S_, .f32⟩
  | .hbm, ⟨44, _⟩ => ⟨S512x256x4x64, .f32⟩
  | .hbm, ⟨45, _⟩ => ⟨S512x2x128x4x64, .f32⟩
  | .hbm, ⟨46, _⟩ => ⟨S512x1x128x4x64, .f32⟩
  | .hbm, ⟨47, _⟩ => ⟨S512x1x128x4x64, .f32⟩
  | .hbm, ⟨48, _⟩ => ⟨S512x1x256x4x64, .f32⟩
  | .hbm, ⟨49, _⟩ => ⟨S512x1x128x4x4x64, .f32⟩
  | .hbm, ⟨50, _⟩ => ⟨S512x1x4x256x128x4, .f32⟩
  | .hbm, ⟨51, _⟩ => ⟨S512x1x4x4x128x256, .f32⟩
  | .hbm, ⟨52, _⟩ => ⟨S256, .i32⟩
  | .hbm, ⟨53, _⟩ => ⟨S1x256, .i32⟩
  | .hbm, ⟨54, _⟩ => ⟨S1, .i32⟩
  | .hbm, ⟨55, _⟩ => ⟨S1x1x1, .i32⟩
  | .hbm, ⟨56, _⟩ => ⟨S_, .i32⟩
  | .hbm, ⟨57, _⟩ => ⟨S1x1x1, .i32⟩
  | .hbm, ⟨58, _⟩ => ⟨S1x1x1, .i32⟩
  | .hbm, ⟨59, _⟩ => ⟨S_, .i32⟩
  | .hbm, ⟨60, _⟩ => ⟨S1x1x1, .i32⟩
  | .hbm, ⟨61, _⟩ => ⟨S1x1x1, .i32⟩
  | .hbm, ⟨62, _⟩ => ⟨S1x1x256, .i32⟩
  | .hbm, ⟨63, _⟩ => ⟨S1x1x256, .i32⟩
  | .hbm, ⟨64, _⟩ => ⟨S1x1x256, .i32⟩
  | .hbm, ⟨65, _⟩ => ⟨S_, .i32⟩
  | .hbm, ⟨66, _⟩ => ⟨S1x1x256, .i32⟩
  | .hbm, ⟨67, _⟩ => ⟨S1x1x256, .i1⟩
  | .hbm, ⟨68, _⟩ => ⟨S1x128x256, .i1⟩
  | .hbm, ⟨69, _⟩ => ⟨S4x2x4x128x128, .f32⟩
  | .hbm, ⟨70, _⟩ => ⟨S4x4x128x2x128, .f32⟩
  | .hbm, ⟨71, _⟩ => ⟨S4x4x128x256, .f32⟩
  | .hbm, ⟨72, _⟩ => ⟨S1x1x4x4x128x256, .f32⟩
  | .hbm, ⟨73, _⟩ => ⟨S512x1x4x4x128x256, .f32⟩
  | .hbm, ⟨74, _⟩ => ⟨S512x1x4x4x128x256, .f32⟩
  | .hbm, ⟨75, _⟩ => ⟨S1x1x1x1x128x256, .i1⟩
  | .hbm, ⟨76, _⟩ => ⟨S_, .f32⟩
  | .hbm, ⟨77, _⟩ => ⟨S_, .f32⟩
  | .hbm, ⟨78, _⟩ => ⟨S512x1x4x4x128x256, .i1⟩
  | .hbm, ⟨79, _⟩ => ⟨S512x1x4x4x128x256, .f32⟩
  | .hbm, ⟨80, _⟩ => ⟨S512x1x4x4x128x256, .f32⟩
  | .hbm, ⟨81, _⟩ => ⟨S_, .f32⟩
  | .hbm, ⟨82, _⟩ => ⟨S512x1x4x4x128, .f32⟩
  | .hbm, ⟨83, _⟩ => ⟨S512x1x4x4x128x1, .f32⟩
  | .hbm, ⟨84, _⟩ => ⟨S512x1x4x4x128x256, .f32⟩
  | .hbm, ⟨85, _⟩ => ⟨S512x1x4x4x128x256, .f32⟩
  | .hbm, ⟨86, _⟩ => ⟨S512x1x4x4x128x256, .f32⟩
  | .hbm, ⟨87, _⟩ => ⟨S_, .f32⟩
  | .hbm, ⟨88, _⟩ => ⟨S_, .f32⟩
  | .hbm, ⟨89, _⟩ => ⟨S512x1x4x4x128x256, .i1⟩
  | .hbm, ⟨90, _⟩ => ⟨S512x1x4x4x128x256, .f32⟩
  | .hbm, ⟨91, _⟩ => ⟨S512x1x4x4x128x256, .f32⟩
  | .hbm, ⟨92, _⟩ => ⟨S_, .f32⟩
  | .hbm, ⟨93, _⟩ => ⟨S512x1x4x4x128, .f32⟩
  | .hbm, ⟨94, _⟩ => ⟨S512x1x4x4x128x1, .f32⟩
  | .hbm, ⟨95, _⟩ => ⟨S512x1x4x64x4x128, .f32⟩
  | .hbm, ⟨96, _⟩ => ⟨S512x1x128x4x4x64, .f32⟩
  | .hbm, ⟨97, _⟩ => ⟨S512x1x4x4x128, .f32⟩
  | .hbm, ⟨98, _⟩ => ⟨S512x1x128x4x4, .f32⟩
  | .hbm, ⟨99, _⟩ => ⟨S512x1x128x4x4x1, .f32⟩
  | .hbm, ⟨100, _⟩ => ⟨S512x1x128x4x4x64, .f32⟩
  | .hbm, ⟨101, _⟩ => ⟨S512x1x128x4x4x64, .f32⟩
  | .hbm, ⟨102, _⟩ => ⟨S512x1x4x4x128x1, .f32⟩
  | .hbm, ⟨103, _⟩ => ⟨S512x1x4x4x128x1, .f32⟩
  | .hbm, ⟨104, _⟩ => ⟨S512x1x4x4x128, .f32⟩
  | .hbm, ⟨105, _⟩ => ⟨S512x1x128x4x4, .f32⟩
  | .hbm, ⟨106, _⟩ => ⟨S512x128x4x4, .f32⟩
  | .hbm, ⟨107, _⟩ => ⟨S512x128x4x4x64, .f32⟩
  | .hbm, ⟨108, _⟩ => ⟨S32x16x128x4x4x64, .f32⟩
  | .hbm, ⟨109, _⟩ => ⟨S32x128x16x4x4x64, .f32⟩
  | .hbm, ⟨110, _⟩ => ⟨S32x2048x4x4x64, .f32⟩
  | .hbm, ⟨111, _⟩ => ⟨S32x16x128x4x4, .f32⟩
  | .hbm, ⟨112, _⟩ => ⟨S32x128x16x4x4, .f32⟩
  | .hbm, ⟨113, _⟩ => ⟨S32x2048x4x4, .f32⟩
  | .hbm, ⟨114, _⟩ => ⟨S32x128x16x16x64, .f32⟩
  | .hbm, ⟨115, _⟩ => ⟨S32x16x16x128x64, .f32⟩
  | .hbm, ⟨116, _⟩ => ⟨S32x16x16x128x64, .bf16⟩
  | .hbm, ⟨117, _⟩ => ⟨S32x128x16x4x4, .f32⟩
  | .hbm, ⟨118, _⟩ => ⟨S32x16x4x128x4, .f32⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_call2_v0 : Ref sig .tc := ⟨.hbm, 33, rfl⟩
abbrev main_v25 : Ref sig .tc := ⟨.hbm, 34, rfl⟩
abbrev main_c_2 : Ref sig .tc := ⟨.hbm, 35, rfl⟩
abbrev main_call3_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_call4_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Post.lean ====
abbrev S65536x1024 : Shape := ⟨2, ![65536, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 16
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1x1024x5632, .f32⟩
  | .hbm, ⟨10, _⟩ => ⟨S1024x5632, .f32⟩
  | .hbm, ⟨11, _⟩ => ⟨S1024x5632, .bf16⟩
  | .hbm, ⟨12, _⟩ => ⟨S1x2816x1024, .f32⟩
  | .hbm, ⟨13, _⟩ => ⟨S2816x1024, .f32⟩
  | .hbm, ⟨14, _⟩ => ⟨S2816x1024, .bf16⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostRefIdeal.lean ====
abbrev S65536x1024 : Shape := ⟨2, ![65536, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S65536x1024, .f32⟩
  | .hbm, ⟨7, _⟩ => ⟨S1024x1024, .f32⟩
  | .hbm, ⟨8, _⟩ => ⟨S65536x1024, .f32⟩
  | .hbm, ⟨9, _⟩ => ⟨S65536x1024, .f32⟩
  | .hbm, ⟨10, _⟩ => ⟨S1x1024, .f32⟩
  | .hbm, ⟨11, _⟩ => ⟨S1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S1x1024x5632, .f32⟩
  | .hbm, ⟨29, _⟩ => ⟨S1024x5632, .f32⟩
  | .hbm, ⟨30, _⟩ => ⟨S1x2816x1024, .f32⟩
  | .hbm, ⟨31, _⟩ => ⟨S2816x1024, .f32⟩
  | .hbm, ⟨32, _⟩ => ⟨S65536x5632, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S_, .f32⟩
  | .hbm, ⟨38, _⟩ => ⟨S65536x2816, .f32⟩
  | .hbm, ⟨39, _⟩ => ⟨S65536x2816, .f32⟩
  | .hbm, ⟨40, _⟩ => ⟨S_, .f32⟩
  | .hbm, ⟨41, _⟩ => ⟨S65536x2816, .f32⟩
  | .hbm, ⟨42, _⟩ => ⟨S65536x2816, .f32⟩
  | .hbm, ⟨43, _⟩ => ⟨S65536x2816, .f32⟩
  | .hbm, ⟨44, _⟩ => ⟨S65536x2816, .f32⟩
  | .hbm, ⟨45, _⟩ => ⟨S65536x1024, .f32⟩
  | .hbm, ⟨46, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Final.lean ====
abbrev S65536x1024 : Shape := ⟨2, ![65536, 1024]⟩
abbrev S65536x16 : Shape := ⟨2, ![65536, 16]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16 : Shape := ⟨1, ![16]⟩
abbrev S16x1 : Shape := ⟨2, ![16, 1]⟩
abbrev S16x1024 : Shape := ⟨2, ![16, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 49
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x16, .f32⟩
  | .hbm, ⟨5, _⟩ => ⟨S65536x16, .f32⟩
  | .hbm, ⟨6, _⟩ => ⟨S65536x16, .f32⟩
  | .hbm, ⟨7, _⟩ => ⟨S1x1024x1024, .f32⟩
  | .hbm, ⟨8, _⟩ => ⟨S2x1024, .f32⟩
  | .hbm, ⟨9, _⟩ => ⟨S2x1024x5632, .f32⟩
  | .hbm, ⟨10, _⟩ => ⟨S2x2816x1024, .f32⟩
  | .hbm, ⟨11, _⟩ => ⟨S1024, .f32⟩
  | .hbm, ⟨12, _⟩ => ⟨S1024, .i32⟩
  | .hbm, ⟨13, _⟩ => ⟨S1x1024, .i32⟩
  | .hbm, ⟨14, _⟩ => ⟨S_, .i32⟩
  | .hbm, ⟨15, _⟩ => ⟨S_, .i32⟩
  | .hbm, ⟨16, _⟩ => ⟨S1x1024, .i32⟩
  | .hbm, ⟨17, _⟩ => ⟨S1x1024, .i32⟩
  | .hbm, ⟨18, _⟩ => ⟨S1x1024, .i32⟩
  | .hbm, ⟨19, _⟩ => ⟨S_, .i32⟩
  | .hbm, ⟨20, _⟩ => ⟨S1x1024, .i32⟩
  | .hbm, ⟨21, _⟩ => ⟨S1x1024, .i1⟩
  | .hbm, ⟨22, _⟩ => ⟨S1x1024, .i32⟩
  | .hbm, ⟨23, _⟩ => ⟨S1x1024, .i32⟩
  | .hbm, ⟨24, _⟩ => ⟨S_, .i32⟩
  | .hbm, ⟨25, _⟩ => ⟨S1x1024, .i32⟩
  | .hbm, ⟨26, _⟩ => ⟨S1x1024, .i1⟩
  | .hbm, ⟨27, _⟩ => ⟨S1x1024, .i1⟩
  | .hbm, ⟨28, _⟩ => ⟨S_, .i32⟩
  | .hbm, ⟨29, _⟩ => ⟨S1x1024, .i32⟩
  | .hbm, ⟨30, _⟩ => ⟨S1x1024, .i32⟩
  | .hbm, ⟨31, _⟩ => ⟨S1x1024, .i32⟩
  | .hbm, ⟨32, _⟩ => ⟨S16, .i32⟩
  | .hbm, ⟨33, _⟩ => ⟨S16x1, .i32⟩
  | .hbm, ⟨34, _⟩ => ⟨S16x1024, .i32⟩
  | .hbm, ⟨35, _⟩ => ⟨S16x1024, .i32⟩
  | .hbm, ⟨36, _⟩ => ⟨S16x1024, .i1⟩
  | .hbm, ⟨37, _⟩ => ⟨S16x1024, .bf16⟩
  | .hbm, ⟨38, _⟩ => ⟨S1024x1024, .f32⟩
  | .hbm, ⟨39, _⟩ => ⟨S1024x1024, .bf16⟩
  | .hbm, ⟨40, _⟩ => ⟨S1x1024, .f32⟩
  | .hbm, ⟨41, _⟩ => ⟨S1x1024x5632, .f32⟩
  | .hbm, ⟨42, _⟩ => ⟨S1024x5632, .f32⟩
  | .hbm, ⟨43, _⟩ => ⟨S1024x5632, .bf16⟩
  | .hbm, ⟨44, _⟩ => ⟨S1x2816x1024, .f32⟩
  | .hbm, ⟨45, _⟩ => ⟨S2816x1024, .f32⟩
  | .hbm, ⟨46, _⟩ => ⟨S2816x1024, .bf16⟩
  | .hbm, ⟨47, _⟩ => ⟨S1x1024, .f32⟩
  | .hbm, ⟨48, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S16x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x5632, .bf16⟩
  | .local _ .vmem, ⟨18, _⟩ => ⟨S2816x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FinalRefIdeal.lean ====
abbrev S65536x1024 : Shape := ⟨2, ![65536, 1024]⟩
abbrev S65536x16 : Shape := ⟨2, ![65536, 16]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S65536x4x4x64 : Shape := ⟨4, ![65536, 4, 4, 64]⟩
abbrev S65536x4x4 : Shape := ⟨3, ![65536, 4, 4]⟩
abbrev S65536x4x4x1 : Shape := ⟨4, ![65536, 4, 4, 1]⟩
abbrev S65536x4x4x3 : Shape := ⟨4, ![65536, 4, 4, 3]⟩
abbrev S_ : Shape := ⟨0, ![]⟩
abbrev S65536x4x4x64x1 : Shape := ⟨5, ![65536, 4, 4, 64, 1]⟩
abbrev S65536x4x4x64x3 : Shape := ⟨5, ![65536, 4, 4, 64, 3]⟩
abbrev S1024x1024 : Shape := ⟨2, ![1024, 1024]⟩
abbrev S1x1024 : Shape := ⟨2, ![1, 1024]⟩
abbrev S65536 : Shape := ⟨1, ![65536]⟩
abbrev S65536x1 : Shape := ⟨2, ![65536, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 101
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x16, .f32⟩
  | .hbm, ⟨5, _⟩ => ⟨S65536x16, .f32⟩
  | .hbm, ⟨6, _⟩ => ⟨S65536x16, .f32⟩
  | .hbm, ⟨7, _⟩ => ⟨S1x1024x1024, .f32⟩
  | .hbm, ⟨8, _⟩ => ⟨S2x1024, .f32⟩
  | .hbm, ⟨9, _⟩ => ⟨S2x1024x5632, .f32⟩
  | .hbm, ⟨10, _⟩ => ⟨S2x2816x1024, .f32⟩
  | .hbm, ⟨11, _⟩ => ⟨S1024, .f32⟩
  | .hbm, ⟨12, _⟩ => ⟨S65536x1024, .f32⟩
  | .hbm, ⟨13, _⟩ => ⟨S65536x4x4x64, .f32⟩
  | .hbm, ⟨14, _⟩ => ⟨S65536x1024, .f32⟩
  | .hbm, ⟨15, _⟩ => ⟨S65536x4x4x64, .f32⟩
  | .hbm, ⟨16, _⟩ => ⟨S65536x1024, .f32⟩
  | .hbm, ⟨17, _⟩ => ⟨S65536x4x4x64, .f32⟩
  | .hbm, ⟨18, _⟩ => ⟨S65536x4x4, .f32⟩
  | .hbm, ⟨19, _⟩ => ⟨S65536x4x4, .f32⟩
  | .hbm, ⟨20, _⟩ => ⟨S65536x4x4, .f32⟩
  | .hbm, ⟨21, _⟩ => ⟨S65536x4x4x1, .f32⟩
  | .hbm, ⟨22, _⟩ => ⟨S65536x4x4x1, .f32⟩
  | .hbm, ⟨23, _⟩ => ⟨S65536x4x4x1, .f32⟩
  | .hbm, ⟨24, _⟩ => ⟨S65536x4x4x3, .f32⟩
  | .hbm, ⟨25, _⟩ => ⟨S_, .f32⟩
  | .hbm, ⟨26, _⟩ => ⟨S65536x4x4, .f32⟩
  | .hbm, ⟨27, _⟩ => ⟨S_, .f32⟩
  | .hbm, ⟨28, _⟩ => ⟨S65536x4x4, .f32⟩
  | .hbm, ⟨29, _⟩ => ⟨S65536x4x4, .f32⟩
  | .hbm, ⟨30, _⟩ => ⟨S65536x4x4x1, .f32⟩
  | .hbm, ⟨31, _⟩ => ⟨S65536x4x4x3, .f32⟩
  | .hbm, ⟨32, _⟩ => ⟨S65536x4x4x3, .f32⟩
  | .hbm, ⟨33, _⟩ => ⟨S65536x4x4x3, .f32⟩
  | .hbm, ⟨34, _⟩ => ⟨S_, .f32⟩
  | .hbm, ⟨35, _⟩ => ⟨S65536x4x4, .f32⟩
  | .hbm, ⟨36, _⟩ => ⟨S65536x4x4x1, .f32⟩
  | .hbm, ⟨37, _⟩ => ⟨S65536x4x4x3, .f32⟩
  | .hbm, ⟨38, _⟩ => ⟨S65536x4x4x3, .f32⟩
  | .hbm, ⟨39, _⟩ => ⟨S65536x4x4x64x1, .f32⟩
  | .hbm, ⟨40, _⟩ => ⟨S65536x4x4x64x1, .f32⟩
  | .hbm, ⟨41, _⟩ => ⟨S65536x4x4x64x1, .f32⟩
  | .hbm, ⟨42, _⟩ => ⟨S65536x4x4x64x3, .f32⟩
  | .hbm, ⟨43, _⟩ => ⟨S65536x4x4x64, .f32⟩
  | .hbm, ⟨44, _⟩ => ⟨S65536x1024, .f32⟩
  | .hbm, ⟨45, _⟩ => ⟨S1024x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S1x1024, .f32⟩
  | .hbm, ⟨64, _⟩ => ⟨S65536x1024, .f32⟩
  | .hbm, ⟨65, _⟩ => ⟨S65536x1024, .f32⟩
  | .hbm, ⟨66, _⟩ => ⟨S1x1024x5632, .f32⟩
  | .hbm, ⟨67, _⟩ => ⟨S1024x5632, .f32⟩
  | .hbm, ⟨68, _⟩ => ⟨S1x2816x1024, .f32⟩
  | .hbm, ⟨69, _⟩ => ⟨S2816x1024, .f32⟩
  | .hbm, ⟨70, _⟩ => ⟨S65536x5632, .f32⟩
  | .hbm, ⟨71, _⟩ => ⟨S65536x2816, .f32⟩
  | .hbm, ⟨72, _⟩ => ⟨S65536x2816, .f32⟩
  | .hbm, ⟨73, _⟩ => ⟨S65536x2816, .f32⟩
  | .hbm, ⟨74, _⟩ => ⟨S65536x2816, .f32⟩
  | .hbm, ⟨75, _⟩ => ⟨S_, .f32⟩
  | .hbm, ⟨76, _⟩ => ⟨S65536x2816, .f32⟩
  | .hbm, ⟨77, _⟩ => ⟨S65536x2816, .f32⟩
  | .hbm, ⟨78, _⟩ => ⟨S_, .f32⟩
  | .hbm, ⟨79, _⟩ => ⟨S65536x2816, .f32⟩
  | .hbm, ⟨80, _⟩ => ⟨S65536x2816, .f32⟩
  | .hbm, ⟨81, _⟩ => ⟨S65536x2816, .f32⟩
  | .hbm, ⟨82, _⟩ => ⟨S65536x2816, .f32⟩
  | .hbm, ⟨83, _⟩ => ⟨S65536x1024, .f32⟩
  | .hbm, ⟨84, _⟩ => ⟨S65536x1024, .f32⟩
  | .hbm, ⟨85, _⟩ => ⟨S65536x1024, .f32⟩
  | .hbm, ⟨86, _⟩ => ⟨S_, .f32⟩
  | .hbm, ⟨87, _⟩ => ⟨S65536, .f32⟩
  | .hbm, ⟨88, _⟩ => ⟨S65536x1, .f32⟩
  | .hbm, ⟨89, _⟩ => ⟨S_, .f32⟩
  | .hbm, ⟨90, _⟩ => ⟨S65536x1, .f32⟩
  | .hbm, ⟨91, _⟩ => ⟨S65536x1, .f32⟩
  | .hbm, ⟨92, _⟩ => ⟨S_, .f32⟩
  | .hbm, ⟨93, _⟩ => ⟨S65536x1, .f32⟩
  | .hbm, ⟨94, _⟩ => ⟨S65536x1, .f32⟩
  | .hbm, ⟨95, _⟩ => ⟨S65536x1, .f32⟩
  | .hbm, ⟨96, _⟩ => ⟨S65536x1024, .f32⟩
  | .hbm, ⟨97, _⟩ => ⟨S65536x1024, .f32⟩
  | .hbm, ⟨98, _⟩ => ⟨S1x1024, .f32⟩
  | .hbm, ⟨99, _⟩ => ⟨S65536x1024, .f32⟩
  | .hbm, ⟨100, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_cst_6 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Proj.lean ====
abbrev S65536x1024 : Shape := ⟨2, ![65536, 1024]⟩
abbrev S2x1024 : Shape := ⟨2, ![2, 1024]⟩
abbrev S1x1024x2608 : Shape := ⟨3, ![1, 1024, 2608]⟩
abbrev S1024x2608 : Shape := ⟨2, ![1024, 2608]⟩
abbrev S1024x1024 : Shape := ⟨2, ![1024, 1024]⟩
abbrev S_ : Shape := ⟨0, ![]⟩
abbrev S1024x512 : Shape := ⟨2, ![1024, 512]⟩
abbrev S1024x48 : Shape := ⟨2, ![1024, 48]⟩
abbrev S1024x128 : Shape := ⟨2, ![1024, 128]⟩
abbrev S1x1024 : Shape := ⟨2, ![1, 1024]⟩
abbrev S65536x512 : Shape := ⟨2, ![65536, 512]⟩
abbrev S65536x128 : Shape := ⟨2, ![65536, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x2608, .f32⟩
  | .hbm, ⟨3, _⟩ => ⟨S1024x2608, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x512, .f32⟩
  | .hbm, ⟨10, _⟩ => ⟨S1024x512, .bf16⟩
  | .hbm, ⟨11, _⟩ => ⟨S1024x1024, .f32⟩
  | .hbm, ⟨12, _⟩ => ⟨S1024x1024, .bf16⟩
  | .hbm, ⟨13, _⟩ => ⟨S1024x48, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1x1024, .f32⟩
  | .hbm, ⟨19, _⟩ => ⟨S65536x1024, .bf16⟩
  | .hbm, ⟨20, _⟩ => ⟨S65536x512, .bf16⟩
  | .hbm, ⟨21, _⟩ => ⟨S65536x1024, .bf16⟩
  | .hbm, ⟨22, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x1024, .bf16⟩
  | .local _ .vmem, ⟨6, _⟩ => ⟨S1024x128, .bf16⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S65536x1024 : Shape := ⟨2, ![65536, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x2608 : Shape := ⟨2, ![1024, 2608]⟩
abbrev S65536x2608 : Shape := ⟨2, ![65536, 2608]⟩
abbrev S65536x512 : Shape := ⟨2, ![65536, 512]⟩
abbrev S65536x48 : Shape := ⟨2, ![65536, 48]⟩
abbrev S65536x128 : Shape := ⟨2, ![65536, 128]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S1024x2608, .f32⟩
  | .hbm, ⟨22, _⟩ => ⟨S65536x2608, .f32⟩
  | .hbm, ⟨23, _⟩ => ⟨S65536x1024, .f32⟩
  | .hbm, ⟨24, _⟩ => ⟨S65536x512, .f32⟩
  | .hbm, ⟨25, _⟩ => ⟨S65536x1024, .f32⟩
  | .hbm, ⟨26, _⟩ => ⟨S65536x48, .f32⟩
  | .hbm, ⟨27, _⟩ => ⟨S_, .i32⟩
  | .hbm, ⟨28, _⟩ => ⟨S_, .f32⟩
  | .hbm, ⟨29, _⟩ => ⟨S65536x128, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .bf16⟩
  | .hbm, ⟨34, _⟩ => ⟨S65536x512, .bf16⟩
  | .hbm, ⟨35, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== ProjKv.lean ====
abbrev S65536x1024 : Shape := ⟨2, ![65536, 1024]⟩
abbrev S2x1024 : Shape := ⟨2, ![2, 1024]⟩
abbrev S1024 : Shape := ⟨1, ![1024]⟩
abbrev S1x1024x3072 : Shape := ⟨3, ![1, 1024, 3072]⟩
abbrev S1024x1536 : Shape := ⟨2, ![1024, 1536]⟩
abbrev S1x1024 : Shape := ⟨2, ![1, 1024]⟩
abbrev S1024x3072 : Shape := ⟨2, ![1024, 3072]⟩
abbrev S_ : Shape := ⟨0, ![]⟩
abbrev S65536x3072 : Shape := ⟨2, ![65536, 3072]⟩
abbrev S65536x1536 : Shape := ⟨2, ![65536, 1536]⟩
abbrev S512x1024 : Shape := ⟨2, ![512, 1024]⟩
abbrev S512x3072 : Shape := ⟨2, ![512, 3072]⟩
abbrev S512x1536 : Shape := ⟨2, ![512, 1536]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 18
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024, .f32⟩
  | .hbm, ⟨3, _⟩ => ⟨S1x1024x3072, .f32⟩
  | .hbm, ⟨4, _⟩ => ⟨S1024x1536, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S2x1024, .f32⟩
  | .hbm, ⟨10, _⟩ => ⟨S1024x3072, .f32⟩
  | .hbm, ⟨11, _⟩ => ⟨S_, .f32⟩
  | .hbm, ⟨12, _⟩ => ⟨S1024x3072, .f32⟩
  | .hbm, ⟨13, _⟩ => ⟨S1024x3072, .f32⟩
  | .hbm, ⟨14, _⟩ => ⟨S1024x3072, .bf16⟩
  | .hbm, ⟨15, _⟩ => ⟨S1024x1536, .bf16⟩
  | .hbm, ⟨16, _⟩ => ⟨S65536x3072, .bf16⟩
  | .hbm, ⟨17, _⟩ => ⟨S65536x1536, .bf16⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1024x3072, .bf16⟩
  | .local _ .vmem, ⟨4, _⟩ => ⟨S1024x1536, .bf16⟩
  | .local _ .vmem, ⟨5, _⟩ => ⟨S512x3072, .bf16⟩
  | .local _ .vmem, ⟨6, _⟩ => ⟨S512x3072, .bf16⟩
  | .local _ .vmem, ⟨7, _⟩ => ⟨S512x1536, .bf16⟩
  | .local _ .vmem, ⟨8, _⟩ => ⟨S512x1536, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjKvRefIdeal.lean ====
abbrev S65536x1024 : Shape := ⟨2, ![65536, 1024]⟩
abbrev S2x1024 : Shape := ⟨2, ![2, 1024]⟩
abbrev S1024 : Shape := ⟨1, ![1024]⟩
abbrev S1x1024x3072 : Shape := ⟨3, ![1, 1024, 3072]⟩
abbrev S1024x1536 : Shape := ⟨2, ![1024, 1536]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1024x3072 : Shape := ⟨2, ![1024, 3072]⟩
abbrev S65536x3072 : Shape := ⟨2, ![65536, 3072]⟩
abbrev S65536x1536 : Shape := ⟨2, ![65536, 1536]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1024, .f32⟩
  | .hbm, ⟨3, _⟩ => ⟨S1x1024x3072, .f32⟩
  | .hbm, ⟨4, _⟩ => ⟨S1024x1536, .f32⟩
  | .hbm, ⟨5, _⟩ => ⟨S1x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1024x3072, .f32⟩
  | .hbm, ⟨24, _⟩ => ⟨S65536x3072, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S65536x1536, .f32⟩
  | .hbm, ⟨42, _⟩ => ⟨S_, .f32⟩
  | .hbm, ⟨43, _⟩ => ⟨S65536x3072, .f32⟩
  | .hbm, ⟨44, _⟩ => ⟨S65536x3072, .f32⟩
  | .hbm, ⟨45, _⟩ => ⟨S65536x3072, .bf16⟩
  | .hbm, ⟨46, _⟩ => ⟨S65536x1536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.DilFrame.lean ====
module

public import proofs.«01_k».proof.Proof.Gen.DilIdeal.Frame
public import proofs.«01_k».proof.Proof.Gen.DilIdeal.Skeleton
public import proofs.«01_k».proof.Proof.Gen.DilIdeal.Points
public import Idealize.ShloMosaic.Lib.Exec
public import Idealize.ShloMosaic.Lib.Pipeline.Kit
public import Idealize.ShloMosaic.Lib.Pipeline.Value
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option maxHeartbeats 4000000

noncomputable section

/-! The run of the dilated attention call (with its casts removed): every trip of its loop leaves one stretch of each result block,
    the sixteen stretches are the whole block, so the block after the body is a function of the input blocks alone. -/

namespace Cert.DilIdeal.Mine

open Cert.DilIdeal Cert.DilIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip -/

/-- Where a trip reads the queries and writes the output. -/
abbrev rq (k : Fin k0_t1_loop.trips) : Rect S1x16x4x128x64 :=
  Rect.unit (s := S1x16x4x128x64) (k0_off1 k) S1x1x4x128x64.size (k0_off1_inb k)
/-- Where a trip reads the keys and the values. -/
abbrev rk (k : Fin k0_t1_loop.trips) : Rect S1x16x1x128x64 :=
  Rect.unit (s := S1x16x1x128x64) (k0_off2 k) S1x1x1x128x64.size (k0_off2_inb k)
/-- Where every trip reads the position bias. -/
abbrev rb : Rect S1x2x512x128 :=
  Rect.unit (s := S1x2x512x128) ![0, 1, 0, 0] S1x1x512x128.size inb_S1x2x512x128_S1x1x512x128_0_1_0_0
/-- Where a trip writes the log of the normalizer. -/
abbrev rl (k : Fin k0_t1_loop.trips) : Rect S1x16x1x128x4 :=
  Rect.unit (s := S1x16x1x128x4) (k0_off3 k) S1x1x1x128x4.size (k0_off3_inb k)

/-- What trip `k` writes into the output block. -/
def payO (x0 : Vec F S1x16x4x128x64 .bf16) (x1 x2 : Vec F S1x16x1x128x64 .bf16) (x3 : Vec F S1x2x512x128 .f32)
    (k : Fin k0_t1_loop.trips) : FVec F S1x1x4x128x64 .bf16 :=
  k0_pay5 (k0_pay7 (View.ld x0 (rq k))) (k0_pay8 (View.ld x1 (rk k))) (constant S512x128 .f32 0x00000000#32) (View.ld x3 rb)
    (View.ld x2 (rk k))
/-- What trip `k` writes into the block of logs. -/
def payL (x0 : Vec F S1x16x4x128x64 .bf16) (x1 : Vec F S1x16x1x128x64 .bf16) (x3 : Vec F S1x2x512x128 .f32)
    (k : Fin k0_t1_loop.trips) : FVec F S1x1x1x128x4 .f32 :=
  k0_pay6 (k0_pay7 (View.ld x0 (rq k))) (k0_pay8 (View.ld x1 (rk k))) (constant S512x128 .f32 0x00000000#32) (View.ld x3 rb)

/-- The stretches of the output block the trips before `k` write, last first. -/
def stO (x0 : Vec F S1x16x4x128x64 .bf16) (x1 x2 : Vec F S1x16x1x128x64 .bf16) (x3 : Vec F S1x2x512x128 .f32) :
    ℕ → List (View.Piece (Elt F) S1x16x4x128x64 .bf16)
  | 0 => []
  | k + 1 => if h : k < k0_t1_loop.trips then ⟨rq ⟨k, h⟩, payO x0 x1 x2 x3 ⟨k, h⟩⟩ :: stO x0 x1 x2 x3 k
      else stO x0 x1 x2 x3 k
/-- The stretches of the block of logs the trips before `k` write, last first. -/
def stL (x0 : Vec F S1x16x4x128x64 .bf16) (x1 : Vec F S1x16x1x128x64 .bf16) (x3 : Vec F S1x2x512x128 .f32) :
    ℕ → List (View.Piece (Elt F) S1x16x1x128x4 .f32)
  | 0 => []
  | k + 1 => if h : k < k0_t1_loop.trips then ⟨rl ⟨k, h⟩, payL x0 x1 x3 ⟨k, h⟩⟩ :: stL x0 x1 x3 k
      else stL x0 x1 x3 k

theorem stO_succ (x0 : Vec F S1x16x4x128x64 .bf16) (x1 x2 : Vec F S1x16x1x128x64 .bf16) (x3 : Vec F S1x2x512x128 .f32)
    (k : Fin k0_t1_loop.trips) :
    stO x0 x1 x2 x3 (k.val + 1) = [⟨rq k, payO x0 x1 x2 x3 k⟩] ++ stO x0 x1 x2 x3 k.val := by
  rw [stO]; exact dif_pos k.isLt
theorem stL_succ (x0 : Vec F S1x16x4x128x64 .bf16) (x1 : Vec F S1x16x1x128x64 .bf16) (x3 : Vec F S1x2x512x128 .f32)
    (k : Fin k0_t1_loop.trips) :
    stL x0 x1 x3 (k.val + 1) = [⟨rl k, payL x0 x1 x3 k⟩] ++ stL x0 x1 x3 k.val := by
  rw [stL]; exact dif_pos k.isLt

section Trip

variable (𝒱 : Variants) (c : Dev nD) (bd : Option 𝒱.V) (E : Set ℕ) (i : grid0.Coords)
  (arg2 : Memref sig .tc .vmem S1x16x4x128x64 .bf16) (harg2 : arg2.IsWhole)
  (arg3 : Memref sig .tc .vmem S1x16x1x128x64 .bf16) (harg3 : arg3.IsWhole)
  (arg4 : Memref sig .tc .vmem S1x16x1x128x64 .bf16) (harg4 : arg4.IsWhole)
  (arg5 : Memref sig .tc .vmem S1x2x512x128 .f32) (harg5 : arg5.IsWhole)
  (arg6 : Memref sig .tc .vmem S1x16x4x128x64 .bf16) (harg6 : arg6.IsWhole)
  (arg7 : Memref sig .tc .vmem S1x16x1x128x4 .f32) (harg7 : arg7.IsWhole)
  (X2 : BufTy.Contents (Elt F) arg2.view.ty) (X3 : BufTy.Contents (Elt F) arg3.view.ty)
  (X4 : BufTy.Contents (Elt F) arg4.view.ty) (X5 : BufTy.Contents (Elt F) arg5.view.ty)

/-- The buffers a trip runs on. -/
abbrev Bufs (f6 : BufTy.Contents (Elt F) arg6.view.ty) (f7 : BufTy.Contents (Elt F) arg7.view.ty) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f6)
    ∗ (arg7.view.loc (c : Thread nD τ) ↦[arg7.view.set]{fullShare} f7))

/-- One trip writes its two stretches and leaves the rest. -/
theorem trip (k : Fin k0_t1_loop.trips) (f6 : BufTy.Contents (Elt F) arg6.view.ty) (f7 : BufTy.Contents (Elt F) arg7.view.ty) :
    Bufs (F := F) c arg2 arg3 arg4 arg5 arg6 arg7 X2 X3 X4 X5 f6 f7
    ⊢ wp frame (wpE (defs₀ (F := F)) 𝒱 (c : Thread nD τ) bd) E
        (k0_t1_body (F := F) i arg2 harg2 arg3 harg3 arg4 harg4 arg5 harg5 arg6 harg6 arg7 harg7 k PUnit.unit)
        (fun _ => Bufs (F := F) c arg2 arg3 arg4 arg5 arg6 arg7 X2 X3 X4 X5
          (arg6.view.writes (Elt F) f6 [⟨rq k, payO (arg2.view.read (Elt F) X2) (arg3.view.read (Elt F) X3) (arg4.view.read (Elt F) X4) (arg5.view.read (Elt F) X5) k⟩])
          (arg7.view.writes (Elt F) f7 [⟨rl k, payL (arg2.view.read (Elt F) X2) (arg3.view.read (Elt F) X3) (arg5.view.read (Elt F) X5) k⟩])) := by
  have hk : k.val < 16 := Nat.lt_of_lt_of_le k.isLt k0_t1_abs.2.1
  unfold k0_t1_body
  iintro ⟨HR_arg2, HR_arg3, HR_arg4, HR_arg5, HW_arg6, HW_arg7⟩
  sl_exec
  sl_step
  isplitl [HR_arg2]; · iexact HR_arg2
  isplitl [HR_arg3]; · iexact HR_arg3
  isplitl [HR_arg4]; · iexact HR_arg4
  isplitl [HR_arg5]; · iexact HR_arg5
  isplitl [HW_arg6]; · iexact HW_arg6
  iexact HW_arg7

set_option warn.classDefReducibility false in
/-- The loop: before trip `k` each result buffer holds the stretches of the trips before it over what it held at entry. -/
@[sl_loop] def loop (G6 : BufTy.Contents (Elt F) arg6.view.ty) (G7 : BufTy.Contents (Elt F) arg7.view.ty) :
    LoopInv (M := 𝕄) frame (wpE (defs₀ (F := F)) 𝒱 (c : Thread nD τ) bd) E
      k0_t1_loop.lb k0_t1_loop.ub k0_t1_loop.st k0_t1_ok ()
      (k0_t1_body (F := F) i arg2 harg2 arg3 harg3 arg4 harg4 arg5 harg5 arg6 harg6 arg7 harg7) where
  inv k _ := iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f)
        ∗ ⌜f = arg6.view.writes (Elt F) G6 (stO (arg2.view.read (Elt F) X2) (arg3.view.read (Elt F) X3) (arg4.view.read (Elt F) X4) (arg5.view.read (Elt F) X5) k)⌝)
    ∗ (∃ f, (arg7.view.loc (c : Thread nD τ) ↦[arg7.view.set]{fullShare} f)
        ∗ ⌜f = arg7.view.writes (Elt F) G7 (stL (arg2.view.read (Elt F) X2) (arg3.view.read (Elt F) X3) (arg5.view.read (Elt F) X5) k)⌝))
  step k acc := by
    iintro ⟨HR_arg2, HR_arg3, HR_arg4, HR_arg5, ⟨%f6, HW_arg6, %h6⟩, ⟨%f7, HW_arg7, %h7⟩⟩
    iapply (wp_wand_r Idealize.ShloMosaic.frame (wpE (defs₀ (F := F)) 𝒱 (c : Thread nD τ) bd) E)
    isplitl [HR_arg2 HR_arg3 HR_arg4 HR_arg5 HW_arg6 HW_arg7]
    · iapply (trip (F := F) 𝒱 c bd E i arg2 harg2 arg3 harg3 arg4 harg4 arg5 harg5 arg6 harg6 arg7 harg7 X2 X3 X4 X5 k f6 f7)
      isplitl [HR_arg2]; · iexact HR_arg2
      isplitl [HR_arg3]; · iexact HR_arg3
      isplitl [HR_arg4]; · iexact HR_arg4
      isplitl [HR_arg5]; · iexact HR_arg5
      isplitl [HW_arg6]; · iexact HW_arg6
      iexact HW_arg7
    · iintro %_ ⟨HR_arg2, HR_arg3, HR_arg4, HR_arg5, HW_arg6, HW_arg7⟩
      isplitl [HR_arg2]; · iexact HR_arg2
      isplitl [HR_arg3]; · iexact HR_arg3
      isplitl [HR_arg4]; · iexact HR_arg4
      isplitl [HR_arg5]; · iexact HR_arg5
      rw [stO_succ, stL_succ]
      isplitl [HW_arg6]
      · iexists _; isplitl [HW_arg6]; · iexact HW_arg6
        ipureintro; rw [h6, ← View.writes_append]
      iexists _; isplitl [HW_arg7]; · iexact HW_arg7
      ipureintro; rw [h7, ← View.writes_append]

end Trip

/-! ## The stretches are the whole block -/

theorem trips_eq : k0_t1_loop.trips = 16 := by decide +kernel
theorem off1_eq : ∀ k : Fin k0_t1_loop.trips, k0_off1 k = ![0, k.val, 0, 0, 0] := by decide +kernel
theorem off2_eq : ∀ k : Fin k0_t1_loop.trips, k0_off2 k = ![0, k.val, 0, 0, 0] := by decide +kernel
theorem off3_eq : ∀ k : Fin k0_t1_loop.trips, k0_off3 k = ![0, k.val, 0, 0, 0] := by decide +kernel

theorem mem_stO (x0 : Vec F S1x16x4x128x64 .bf16) (x1 x2 : Vec F S1x16x1x128x64 .bf16) (x3 : Vec F S1x2x512x128 .f32)
    (k : Fin k0_t1_loop.trips) : ∀ n : ℕ, k.val < n → n ≤ k0_t1_loop.trips →
    (⟨rq k, payO x0 x1 x2 x3 k⟩ : View.Piece (Elt F) S1x16x4x128x64 .bf16) ∈ stO x0 x1 x2 x3 n
  | 0, h, _ => absurd h (Nat.not_lt_zero _)
  | n + 1, h, hn => by
    rw [stO_succ x0 x1 x2 x3 ⟨n, hn⟩]
    rcases Nat.lt_succ_iff_lt_or_eq.mp h with h | h
    · exact List.mem_append_right _ (mem_stO x0 x1 x2 x3 k n h (Nat.le_of_succ_le hn))
    · rw [show k = ⟨n, hn⟩ from Fin.ext h]; exact List.mem_append_left _ (List.mem_singleton.mpr rfl)
theorem mem_stL (x0 : Vec F S1x16x4x128x64 .bf16) (x1 : Vec F S1x16x1x128x64 .bf16) (x3 : Vec F S1x2x512x128 .f32)
    (k : Fin k0_t1_loop.trips) : ∀ n : ℕ, k.val < n → n ≤ k0_t1_loop.trips →
    (⟨rl k, payL x0 x1 x3 k⟩ : View.Piece (Elt F) S1x16x1x128x4 .f32) ∈ stL x0 x1 x3 n
  | 0, h, _ => absurd h (Nat.not_lt_zero _)
  | n + 1, h, hn => by
    rw [stL_succ x0 x1 x3 ⟨n, hn⟩]
    rcases Nat.lt_succ_iff_lt_or_eq.mp h with h | h
    · exact List.mem_append_right _ (mem_stL x0 x1 x3 k n h (Nat.le_of_succ_le hn))
    · rw [show k = ⟨n, hn⟩ from Fin.ext h]; exact List.mem_append_left _ (List.mem_singleton.mpr rfl)

theorem of_mem_stO (x0 : Vec F S1x16x4x128x64 .bf16) (x1 x2 : Vec F S1x16x1x128x64 .bf16) (x3 : Vec F S1x2x512x128 .f32) :
    ∀ n : ℕ, ∀ p ∈ stO x0 x1 x2 x3 n, ∃ k, p = ⟨rq k, payO x0 x1 x2 x3 k⟩
  | 0, p, h => absurd h (by rw [stO]; exact List.not_mem_nil)
  | n + 1, p, h => by
    rw [stO] at h
    split at h
    · rcases List.mem_cons.mp h with h | h
      · exact ⟨_, h⟩
      · exact of_mem_stO x0 x1 x2 x3 n p h
    · exact of_mem_stO x0 x1 x2 x3 n p h
theorem of_mem_stL (x0 : Vec F S1x16x4x128x64 .bf16) (x1 : Vec F S1x16x1x128x64 .bf16) (x3 : Vec F S1x2x512x128 .f32) :
    ∀ n : ℕ, ∀ p ∈ stL x0 x1 x3 n, ∃ k, p = ⟨rl k, payL x0 x1 x3 k⟩
  | 0, p, h => absurd h (by rw [stL]; exact List.not_mem_nil)
  | n + 1, p, h => by
    rw [stL] at h
    split at h
    · rcases List.mem_cons.mp h with h | h
      · exact ⟨_, h⟩
      · exact of_mem_stL x0 x1 x3 n p h
    · exact of_mem_stL x0 x1 x3 n p h

/-- The trip that writes a place of a result block. -/
def tripOf (j : Fin 16) : Fin k0_t1_loop.trips := ⟨j.val, j.isLt.trans_eq trips_eq.symm⟩

theorem mem_rq (y : S1x16x4x128x64.Idx) : y ∈ (rq (tripOf (y 1))).set := by
  refine Rect.mem_set_unit.mpr fun a => ?_
  rw [off1_eq]
  have h0 : (y 0).val < 1 := (y 0).isLt
  have h1 : (y 1).val < 16 := (y 1).isLt
  have h2 : (y 2).val < 4 := (y 2).isLt
  have h3 : (y 3).val < 128 := (y 3).isLt
  have h4 : (y 4).val < 64 := (y 4).isLt
  match a with
  | ⟨0, _⟩ => show 0 ≤ (y 0).val ∧ (y 0).val < 0 + 1; omega
  | ⟨1, _⟩ => show (y 1).val ≤ (y 1).val ∧ (y 1).val < (y 1).val + 1; omega
  | ⟨2, _⟩ => show 0 ≤ (y 2).val ∧ (y 2).val < 0 + 4; omega
  | ⟨3, _⟩ => show 0 ≤ (y 3).val ∧ (y 3).val < 0 + 128; omega
  | ⟨4, _⟩ => show 0 ≤ (y 4).val ∧ (y 4).val < 0 + 64; omega
theorem mem_rl (y : S1x16x1x128x4.Idx) : y ∈ (rl (tripOf (y 1))).set := by
  refine Rect.mem_set_unit.mpr fun a => ?_
  rw [off3_eq]
  have h0 : (y 0).val < 1 := (y 0).isLt
  have h1 : (y 1).val < 16 := (y 1).isLt
  have h2 : (y 2).val < 1 := (y 2).isLt
  have h3 : (y 3).val < 128 := (y 3).isLt
  have h4 : (y 4).val < 4 := (y 4).isLt
  match a with
  | ⟨0, _⟩ => show 0 ≤ (y 0).val ∧ (y 0).val < 0 + 1; omega
  | ⟨1, _⟩ => show (y 1).val ≤ (y 1).val ∧ (y 1).val < (y 1).val + 1; omega
  | ⟨2, _⟩ => show 0 ≤ (y 2).val ∧ (y 2).val < 0 + 1; omega
  | ⟨3, _⟩ => show 0 ≤ (y 3).val ∧ (y 3).val < 0 + 128; omega
  | ⟨4, _⟩ => show 0 ≤ (y 4).val ∧ (y 4).val < 0 + 4; omega

/-- The output block after the body. -/
def outO (x0 : Vec F S1x16x4x128x64 .bf16) (x1 x2 : Vec F S1x16x1x128x64 .bf16) (x3 : Vec F S1x2x512x128 .f32) :
    Vec F S1x16x4x128x64 .bf16 := View.canon (stO x0 x1 x2 x3 k0_t1_loop.trips)
/-- The block of logs after the body. -/
def outL (x0 : Vec F S1x16x4x128x64 .bf16) (x1 : Vec F S1x16x1x128x64 .bf16) (x3 : Vec F S1x2x512x128 .f32) :
    Vec F S1x16x1x128x4 .f32 := View.canon (stL x0 x1 x3 k0_t1_loop.trips)

theorem coverO (x0 : Vec F S1x16x4x128x64 .bf16) (x1 x2 : Vec F S1x16x1x128x64 .bf16) (x3 : Vec F S1x2x512x128 .f32)
    (y : S1x16x4x128x64.Idx) : ∃ pc ∈ stO x0 x1 x2 x3 k0_t1_loop.trips, y ∈ pc.1.set :=
  ⟨_, mem_stO x0 x1 x2 x3 (tripOf (y 1)) _ (tripOf (y 1)).isLt le_rfl, mem_rq y⟩
theorem coverL (x0 : Vec F S1x16x4x128x64 .bf16) (x1 : Vec F S1x16x1x128x64 .bf16) (x3 : Vec F S1x2x512x128 .f32)
    (y : S1x16x1x128x4.Idx) : ∃ pc ∈ stL x0 x1 x3 k0_t1_loop.trips, y ∈ pc.1.set :=
  ⟨_, mem_stL x0 x1 x3 (tripOf (y 1)) _ (tripOf (y 1)).isLt le_rfl, mem_rl y⟩

/-! ## The body -/

theorem body (c : Dev nD) (E : Set ℕ) (i : grid0.Coords)
    (arg2 : Memref sig .tc .vmem S1x16x4x128x64 .bf16) (harg2 : arg2.IsWhole)
    (arg3 : Memref sig .tc .vmem S1x16x1x128x64 .bf16) (harg3 : arg3.IsWhole)
    (arg4 : Memref sig .tc .vmem S1x16x1x128x64 .bf16) (harg4 : arg4.IsWhole)
    (arg5 : Memref sig .tc .vmem S1x2x512x128 .f32) (harg5 : arg5.IsWhole)
    (arg6 : Memref sig .tc .vmem S1x16x4x128x64 .bf16) (harg6 : arg6.IsWhole)
    (arg7 : Memref sig .tc .vmem S1x16x1x128x4 .f32) (harg7 : arg7.IsWhole)
    (x0 : Vec F S1x16x4x128x64 .bf16) (x1 x2 : Vec F S1x16x1x128x64 .bf16) (x3 : Vec F S1x2x512x128 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outO x0 x1 x2 x3) ∗ owns (c : Thread nD τ) arg7 fullShare (outL x0 x1 x3)) -∗ K ⟨⟩))
      ⊢ wp frame (wpE (defs₀ (F := F)) Variants.none c none) E
          (cc0_dilated_attention i arg2 harg2 arg3 harg3 arg4 harg4 arg5 harg5 arg6 harg6 arg7 harg7) K := by
  simp only [cc0_dilated_attention_eq_skeleton]; unfold cc0_dilated_attention_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _ _ _ _)
  iexists _; isplitr
  swap; · iexact H5
  ipureintro
  exact View.read_writes_eq_canon _ _ _ (coverL _ _ _)

/-! ## The pipeline's proof data -/

variable (m : (ℓ : Loc nD τ sig) → Buf (Elt F) ℓ) (ρ : Dev nD → PrngReg)

/-- The arrays as the launch leaves them, the input blocks unread, the result blocks after the body. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outO (iblk m c 0 t) (iblk m c 1 t) (iblk m c 2 t) (iblk m c 3 t)
    | ⟨5, _⟩ => outL (iblk m c 0 t) (iblk m c 1 t) (iblk m c 3 t)
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outO (iblk m c 0 t) (iblk m c 1 t) (iblk m c 2 t) (iblk m c 3 t) := by dsimp only [dats]
theorem after0_5 (c : Dev nD) (t : Fin cfg0.N) : (dats m 0 c).after 5 t = outL (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (body c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => (Pipeline.FramePost cfgs (dats m) 0 (Gen.V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hΦ := fun _ _ => rfl)

theorem run_main : θ_run defs (onTc (τ := τ) (main (F := F))) (s₀ m ρ) (Pipeline.FramePost cfgs (dats m) 0 (Gen.V m)) :=
  (θ_run defs _ _).mono (fun _ h => h.1) (run_main_quiescent m ρ)

/-- The run ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.DilIdeal.Mine

end
-- ==== Proof.Spec.lean ====
module

public import Idealize.ShloMosaic.Lib.Pipeline.ValueKit
public import Idealize.ShloMosaic.Lib.Pointwise

@[expose] public section

noncomputable section

/-! The layer's formulas over the extended reals, with plain indices: what kernel and reference are both shown to be. -/

namespace Cert.Layer

open Idealize.ShloMosaic

/-- The reciprocal root of a row's mean square, with the small constant added. -/
def rootMs (x : Fin 1024 → EReal) : EReal :=
  Ideal.rsqrt (Ideal.div (∑ k, x k * x k) (Ideal.ofBits .f32 0x44800000#32) + Ideal.ofBits .f32 0x358637BD#32)

/-- A row divided by its root mean square and multiplied by the gain. -/
def normed (x g : Fin 1024 → EReal) (k : Fin 1024) : EReal := x k * rootMs x * g k

/-- A row's product with one column of a matrix. -/
def dot {n : ℕ} (h w : Fin n → EReal) : EReal := ∑ k, h k * w k

/-- The constant `1/8` of the queries' scale. -/
def eighth : EReal := Ideal.ofBits .f32 0x3E000000#32

theorem eighth_eq : eighth = (((1 : ℝ) / 8 : ℝ) : EReal) := by
  simp [eighth, Ideal.ofBits, Ideal.ieee, -EReal.coe_mul]; norm_num

/-- A sum times a nonnegative real is the sum of the products. -/
theorem sum_mul_coe {n : ℕ} (f : Fin n → EReal) (c : ℝ) (hc : 0 ≤ c) : (∑ k, f k) * (c : EReal) = ∑ k, f k * (c : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Scaling a column's entries by `1/8` scales the product with it. -/
theorem dot_eighth {n : ℕ} (h w : Fin n → EReal) : dot h (fun k => w k * eighth) = dot h w * eighth := by
  unfold dot
  rw [eighth_eq, sum_mul_coe _ _ (by norm_num)]
  exact Finset.sum_congr rfl fun k _ => (mul_assoc _ _ _).symm

end Cert.Layer
-- ==== Proof.Ffn.lean ====
module

public import proofs.«01_k».proof.Proof.Spec
public import Idealize.ShloMosaic.Lib.Pipeline.ValueKit

@[expose] public section

set_option maxRecDepth 16384

noncomputable section

/-! The feed-forward part of a layer, over the extended reals with plain indices. -/

namespace Cert.Layer

open Idealize.ShloMosaic Idealize.ShloMosaic.TcCoe

/-- The gated unit: `u` times its logistic, times `v`. -/
def glu (u v : EReal) : EReal := u * Ideal.logistic u * v

/-- The hidden units of a row: the gated products with the two halves of the columns. -/
def hidden (h : Fin 1024 → EReal) (W : Fin 1024 → Fin 5632 → EReal) (k : Fin 2816) : EReal :=
  glu (dot h fun i => W i ⟨k.val, by omega⟩) (dot h fun i => W i ⟨2816 + k.val, by omega⟩)

/-- A row with its attention's output projected and added. -/
def mixed (x a : Fin 1024 → EReal) (O : Fin 1024 → Fin 1024 → EReal) (q : Fin 1024) : EReal := x q + dot a fun k => O k q

/-- A row with the feed-forward part of its normed self added. -/
def fed (y g : Fin 1024 → EReal) (W : Fin 1024 → Fin 5632 → EReal) (D : Fin 2816 → Fin 1024 → EReal) (q : Fin 1024) : EReal :=
  y q + dot (hidden (normed y g) W) fun k => D k q

/-- The shape of one chunk of a block's hidden units. -/
abbrev Chunk : Shape := ⟨2, ![512, 256]⟩
/-- The shape of a block's hidden units. -/
abbrev Units : Shape := ⟨2, ![512, 2816]⟩

/-- A family of eleven chunks side by side, read at a place: the chunk that place lies in. -/
theorem catChunks (P : Fin 11 → FVec Ideal Chunk .bf16)
    (h : Shape.Concatenates ((List.ofFn fun n : Fin 11 => (⟨Chunk, P n⟩ : (s : Shape) × (s.Idx → Ideal .bf16))).map (·.1)) Units 1)
    (f : Fin 2816 → EReal) (r : Fin 512) (hP : ∀ (n : Fin 11) (q : Fin 256), P n (ix2 r q) = f ⟨256 * n.val + q.val, by omega⟩)
    (k : Fin 2816) :
    concatenate Units 1 (List.ofFn fun n : Fin 11 => (⟨Chunk, P n⟩ : (s : Shape) × (s.Idx → Ideal .bf16))) h (ix2 r k) = f k := by
  refine (concatenate_ofFn_apply (s₁ := Chunk) (t := Units) 1 P h rfl 256 rfl (ix2 r k) ⟨k.val / 256, by omega⟩ rfl
    (ix2 r ⟨k.val % 256, by omega⟩) rfl fun b hb => ?_).trans
    ((hP _ _).trans (congrArg f (Fin.ext (Nat.div_add_mod k.val 256))))
  fin_cases b
  · rfl
  · exact absurd rfl hb

/-- Eleven chunks side by side, read at a place: the chunk that place lies in. -/
theorem cat11 (p0 p1 p2 p3 p4 p5 p6 p7 p8 p9 p10 : FVec Ideal Chunk .bf16)
    (h : Shape.Concatenates [Chunk, Chunk, Chunk, Chunk, Chunk, Chunk, Chunk, Chunk, Chunk, Chunk, Chunk] Units 1)
    (f : Fin 2816 → EReal) (r : Fin 512)
    (h0 : ∀ q : Fin 256, p0 (ix2 r q) = f ⟨0 + q.val, by omega⟩)
    (h1 : ∀ q : Fin 256, p1 (ix2 r q) = f ⟨256 + q.val, by omega⟩)
    (h2 : ∀ q : Fin 256, p2 (ix2 r q) = f ⟨512 + q.val, by omega⟩)
    (h3 : ∀ q : Fin 256, p3 (ix2 r q) = f ⟨768 + q.val, by omega⟩)
    (h4 : ∀ q : Fin 256, p4 (ix2 r q) = f ⟨1024 + q.val, by omega⟩)
    (h5 : ∀ q : Fin 256, p5 (ix2 r q) = f ⟨1280 + q.val, by omega⟩)
    (h6 : ∀ q : Fin 256, p6 (ix2 r q) = f ⟨1536 + q.val, by omega⟩)
    (h7 : ∀ q : Fin 256, p7 (ix2 r q) = f ⟨1792 + q.val, by omega⟩)
    (h8 : ∀ q : Fin 256, p8 (ix2 r q) = f ⟨2048 + q.val, by omega⟩)
    (h9 : ∀ q : Fin 256, p9 (ix2 r q) = f ⟨2304 + q.val, by omega⟩)
    (h10 : ∀ q : Fin 256, p10 (ix2 r q) = f ⟨2560 + q.val, by omega⟩)
    (k : Fin 2816) :
    concatenate Units 1 [⟨Chunk, p0⟩, ⟨Chunk, p1⟩, ⟨Chunk, p2⟩, ⟨Chunk, p3⟩, ⟨Chunk, p4⟩, ⟨Chunk, p5⟩, ⟨Chunk, p6⟩, ⟨Chunk, p7⟩, ⟨Chunk, p8⟩, ⟨Chunk, p9⟩, ⟨Chunk, p10⟩] h (ix2 r k) = f k := by
  refine catChunks ![p0, p1, p2, p3, p4, p5, p6, p7, p8, p9, p10] h f r (fun n q => ?_) k
  fin_cases n
  · exact (h0 q).trans (congrArg f (Fin.ext (Nat.zero_add _ |>.trans (Nat.zero_add _).symm)))
  · exact h1 q
  · exact h2 q
  · exact h3 q
  · exact h4 q
  · exact h5 q
  · exact h6 q
  · exact h7 q
  · exact h8 q
  · exact h9 q
  · exact h10 q

/-- A chunk of the columns of the up projection's matrix, loaded: its entries. -/
theorem upChunk (X : Vec Ideal ⟨2, ![1024, 5632]⟩ .bf16) (o : Nat) (inb) (k : Fin 1024) (q : Fin 256) (j : Fin 5632)
    (hj : j.val = o + q.val) :
    View.ld X (Rect.unit (s := ⟨2, ![1024, 5632]⟩) ![0, o] (⟨2, ![1024, 256]⟩ : Shape).size inb) (ix2 k q) = X (ix2 k j) := by
  refine View.ld_unit_apply_of X _ _ _ _ _ fun a => ?_
  fin_cases a
  · exact (Nat.zero_add _).symm
  · exact hj

end Cert.Layer
-- ==== Proof.Combine.lean ====
module

public import proofs.«01_k».proof.Proof.Ffn

@[expose] public section

set_option maxRecDepth 16384

noncomputable section

/-! The combination of the attention calls' outputs by their log-sum-exps, over the extended reals. -/

namespace Cert.Layer

open Idealize.ShloMosaic Idealize.ShloMosaic.TcCoe

/-- The largest of the three log-sum-exps. -/
def top3 (l : Fin 3 → EReal) : EReal := max (max (l 0) (l 1)) (l 2)

/-- A call's unnormalised weight. -/
def part (l : Fin 3 → EReal) (i : Fin 3) : EReal := Ideal.exp (l i - top3 l)

/-- A call's weight: its part of the total. -/
def weight (l : Fin 3 → EReal) (i : Fin 3) : EReal := Ideal.div (part l i) (part l 0 + part l 1 + part l 2)

/-- The three outputs' weighted sum; a head's weights serve its 64 columns. -/
def combined (a : Fin 3 → Fin 1024 → EReal) (l : Fin 3 → Fin 16 → EReal) (k : Fin 1024) : EReal :=
  a 0 k * weight (fun j => l j ⟨k.val / 64, by omega⟩) 0 + a 1 k * weight (fun j => l j ⟨k.val / 64, by omega⟩) 1
    + a 2 k * weight (fun j => l j ⟨k.val / 64, by omega⟩) 2

theorem le_top3 (l : Fin 3 → EReal) (i : Fin 3) : l i ≤ top3 l := by
  unfold top3
  fin_cases i <;> simp

/-- The exponential of something not above zero is a nonnegative real. -/
theorem exp_nonpos (x : EReal) (h : x ≤ 0) : ∃ r : ℝ, 0 ≤ r ∧ Ideal.exp x = (r : EReal) := by
  induction x with
  | bot => exact ⟨0, le_rfl, Ideal.exp_bot⟩
  | coe x => exact ⟨_, (Real.exp_pos x).le, Ideal.exp_coe x⟩
  | top => exact absurd h (by simp)

/-- Each part is a nonnegative real. -/
theorem part_real (l : Fin 3 → EReal) (i : Fin 3) : ∃ r : ℝ, 0 ≤ r ∧ part l i = (r : EReal) := by
  refine exp_nonpos _ ?_
  have h := le_top3 l i
  generalize l i = a at h
  generalize top3 l = b at h
  induction a with
  | bot => induction b <;> simp
  | coe a =>
    induction b with
    | bot => exact absurd h (by simp)
    | coe b => exact_mod_cast sub_nonpos.mpr (EReal.coe_le_coe_iff.mp h)
    | top => simp
  | top => obtain rfl := top_le_iff.mp h; simp

/-- A weight plus its difference with itself is the weight. -/
theorem weight_add (l : Fin 3 → EReal) (i : Fin 3) : weight l i + (weight l i - weight l i) = weight l i := by
  obtain ⟨a, ha, ea⟩ := part_real l 0
  obtain ⟨b, hb, eb⟩ := part_real l 1
  obtain ⟨c, hc, ec⟩ := part_real l 2
  have et : part l 0 + part l 1 + part l 2 = ((a + b + c : ℝ) : EReal) := by rw [ea, eb, ec]; push_cast; rfl
  obtain ⟨w, hw, ew, hle⟩ : ∃ w : ℝ, 0 ≤ w ∧ part l i = (w : EReal) ∧ w ≤ a + b + c := by
    fin_cases i
    · exact ⟨a, ha, ea, by linarith⟩
    · exact ⟨b, hb, eb, by linarith⟩
    · exact ⟨c, hc, ec, by linarith⟩
  unfold weight
  rw [et, ew]
  unfold Ideal.div
  by_cases h : (a + b + c : ℝ) = 0
  · have : w = 0 := le_antisymm (h ▸ hle) hw
    simp [h, this]
  · have h' : ((a + b + c : ℝ) : EReal) ≠ 0 := by exact_mod_cast h
    rw [if_neg h', ← EReal.coe_inv, ← EReal.coe_mul, ← EReal.coe_sub, ← EReal.coe_add]
    simp

/-- The sum against a row of zeros with a one at `n` is the term at `n`. -/
theorem dot_oneHot (α E : Fin 16 → EReal) (n : Fin 16) (hE : ∀ h, E h = if h = n then 1 else 0) : dot α E = α n := by
  unfold dot
  rw [Finset.sum_eq_single n]
  · rw [hE, if_pos rfl, mul_one]
  · intro b _ hb
    rw [hE, if_neg hb, mul_zero]
  · exact fun h => absurd (Finset.mem_univ n) h

/-- A weight spread over a head's columns, in two summands that make it up. -/
theorem spread (L : Fin 3 → Fin 16 → EReal) (i : Fin 3) (E : Fin 16 → EReal) (n : Fin 16) (hE : ∀ h, E h = if h = n then 1 else 0) :
    dot (fun h => weight (fun j => L j h) i) E
      + dot (fun h => weight (fun j => L j h) i - weight (fun j => L j h) i) E = weight (fun j => L j n) i := by
  rw [dot_oneHot _ _ n hE, dot_oneHot _ _ n hE]
  exact weight_add _ _

end Cert.Layer
-- ==== Proof.AttnSpec.lean ====
module

public import proofs.«01_k».proof.Proof.Combine

@[expose] public section

noncomputable section

/-! Attention of one query over its keys, from the scores, over the extended reals. -/

namespace Cert.Layer

open Idealize.ShloMosaic

/-- The largest score. -/
def topOf {n : ℕ} (s : Fin n → EReal) : EReal := Finset.univ.fold max ⊥ s

/-- A key's unnormalised weight. -/
def wt {n : ℕ} (s : Fin n → EReal) (k : Fin n) : EReal := Ideal.exp (s k - topOf s)

/-- The sum of the weights. -/
def den {n : ℕ} (s : Fin n → EReal) : EReal := ∑ k, wt s k

/-- The weighted mean of the values. -/
def attnOut {n : ℕ} (s v : Fin n → EReal) : EReal := Ideal.div (dot (wt s) v) (den s)

/-- The log of the sum of the exponentials of the scores. -/
def attnLog {n : ℕ} (s : Fin n → EReal) : EReal := Ideal.log (den s) + topOf s

/-- The constant a masked score is set to. -/
theorem negInf_eq : Ideal.ofBits FTy.f32 0xFF800000#32 = ⊥ := by
  simp [Ideal.ofBits, Ideal.ieee]

end Cert.Layer
-- ==== Proof.DilBlock.lean ====
module

public import proofs.«01_k».proof.Proof.DilFrame
public import proofs.«01_k».proof.Proof.AttnSpec

@[expose] public section

set_option maxRecDepth 16384

noncomputable section

/-! What one grid point of the dilated attention call stores: its blocks of the two results. -/

namespace Cert.DilIdeal.Mine

open Cert.DilIdeal Cert.DilIdeal.Gen Idealize.ShloMosaic Idealize.ShloMosaic.TcCoe Idealize.SL.Sem Cert.Layer

section Pays

variable (q : FVec Ideal S512x64 .bf16) (k : FVec Ideal S128x64 .bf16) (b : Vec Ideal S1x1x512x128 .f32)

/-- The scores of one stretch of queries. -/
def sc (q : FVec Ideal S512x64 .bf16) (k : FVec Ideal S128x64 .bf16) (b : Vec Ideal S1x1x512x128 .f32)
    (r : Fin 512) (j : Fin 128) : EReal := dot (fun e => q (ix2 r e)) (fun e => k (ix2 j e)) + b (ix4 0 0 r j)

theorem pay1_at (r : Fin 512) (j : Fin 128) :
    k0_pay1 q k (constant S512x128 .f32 0x00000000#32) b (ix2 r j) = sc q k b r j := by
  pointwise [k0_pay1, sc, dot]

theorem max_at (s : FVec Ideal S512x128 .f32) (hs : k0_pay1 q k (constant S512x128 .f32 0x00000000#32) b = s) (r : Fin 512) :
    k0_pay2 q k (constant S512x128 .f32 0x00000000#32) b (ix2 r 0)
      = Finset.univ.fold max (Ideal.ofBits FTy.f32 0xFF800000#32) (fun j : Fin 128 => s (ix2 r j)) := by
  unfold k0_pay2
  rw [hs]
  pointwise

theorem pay2_at (r : Fin 512) :
    k0_pay2 q k (constant S512x128 .f32 0x00000000#32) b (ix2 r 0) = topOf (sc q k b r) := by
  refine (max_at q k b _ rfl r).trans ?_
  rw [negInf_eq]
  exact congrArg (Finset.univ.fold max ⊥) (funext fun j => pay1_at q k b r j)

theorem pay3_at (r : Fin 512) (j : Fin 128) :
    k0_pay3 q k (constant S512x128 .f32 0x00000000#32) b (ix2 r j) = wt (sc q k b r) j := by
  unfold wt
  rw [← pay2_at, ← pay1_at]
  unfold k0_pay3
  generalize k0_pay1 q k (constant S512x128 .f32 0x00000000#32) b = s
  generalize k0_pay2 q k (constant S512x128 .f32 0x00000000#32) b = t
  pointwise

theorem pay4_at (r : Fin 512) :
    k0_pay4 q k (constant S512x128 .f32 0x00000000#32) b (ix2 r 0) = den (sc q k b r) := by
  unfold den
  rw [← funext (pay3_at q k b r)]
  unfold k0_pay4
  generalize k0_pay3 q k (constant S512x128 .f32 0x00000000#32) b = s
  pointwise

theorem pay5_at (v : Vec Ideal S1x1x1x128x64 .bf16) (a : Fin 4) (r : Fin 128) (e : Fin 64) :
    k0_pay5 q k (constant S512x128 .f32 0x00000000#32) b v (ix5 0 0 a r e)
      = attnOut (sc q k b ⟨a.val * 128 + r.val, by omega⟩) (fun j => v (ix5 0 0 0 j e)) := by
  unfold attnOut
  rw [← pay4_at, ← funext (pay3_at q k b _)]
  unfold k0_pay5
  generalize k0_pay3 q k (constant S512x128 .f32 0x00000000#32) b = s
  generalize k0_pay4 q k (constant S512x128 .f32 0x00000000#32) b = t
  pointwise [dot]

theorem pay6_at (a : Fin 4) (r : Fin 128) :
    k0_pay6 q k (constant S512x128 .f32 0x00000000#32) b (ix5 0 0 0 r a)
      = attnLog (sc q k b ⟨a.val * 128 + r.val, by omega⟩) := by
  unfold attnLog
  rw [← pay4_at, ← pay2_at]
  unfold k0_pay6
  generalize k0_pay4 q k (constant S512x128 .f32 0x00000000#32) b = s
  generalize k0_pay2 q k (constant S512x128 .f32 0x00000000#32) b = t
  fin_cases a <;> pointwise

end Pays

/-! ## The loads of a trip -/

/-- A trip's number. -/
def jOf (k : Fin k0_t1_loop.trips) : Fin 16 := ⟨k.val, k.isLt.trans_eq trips_eq⟩

theorem ld_rq (x : Vec Ideal S1x16x4x128x64 .bf16) (k : Fin k0_t1_loop.trips) (a : Fin 4) (r : Fin 128) (e : Fin 64) :
    View.ld x (rq k) (ix5 0 0 a r e) = x (ix5 0 (jOf k) a r e) := by
  refine View.ld_unit_apply_of x _ _ _ _ _ fun d => ?_
  refine Eq.trans ?_ (congrArg (· + _) (congrFun (off1_eq k) d).symm)
  match d with
  | ⟨0, _⟩ => rfl
  | ⟨1, _⟩ => rfl
  | ⟨2, _⟩ => show a.val = 0 + a.val; omega
  | ⟨3, _⟩ => show r.val = 0 + r.val; omega
  | ⟨4, _⟩ => show e.val = 0 + e.val; omega
theorem ld_rk (x : Vec Ideal S1x16x1x128x64 .bf16) (k : Fin k0_t1_loop.trips) (r : Fin 128) (e : Fin 64) :
    View.ld x (rk k) (ix5 0 0 0 r e) = x (ix5 0 (jOf k) 0 r e) := by
  refine View.ld_unit_apply_of x _ _ _ _ _ fun d => ?_
  refine Eq.trans ?_ (congrArg (· + _) (congrFun (off2_eq k) d).symm)
  match d with
  | ⟨0, _⟩ => rfl
  | ⟨1, _⟩ => rfl
  | ⟨2, _⟩ => rfl
  | ⟨3, _⟩ => show r.val = 0 + r.val; omega
  | ⟨4, _⟩ => show e.val = 0 + e.val; omega
theorem ld_rb (x : Vec Ideal S1x2x512x128 .f32) (r : Fin 512) (j : Fin 128) :
    View.ld x rb (ix4 0 0 r j) = x (ix4 0 1 r j) := by
  refine View.ld_unit_apply_of x _ _ _ _ _ fun d => ?_
  match d with
  | ⟨0, _⟩ => rfl
  | ⟨1, _⟩ => rfl
  | ⟨2, _⟩ => show r.val = 0 + r.val; omega
  | ⟨3, _⟩ => show j.val = 0 + j.val; omega

theorem pay7_at (q : Vec Ideal S1x1x4x128x64 .bf16) (a : Fin 4) (r : Fin 128) (e : Fin 64) :
    k0_pay7 q (ix2 ⟨a.val * 128 + r.val, by omega⟩ e) = q (ix5 0 0 a r e) := by
  pointwise [k0_pay7]
theorem pay8_at (k : Vec Ideal S1x1x1x128x64 .bf16) (r : Fin 128) (e : Fin 64) :
    k0_pay8 k (ix2 r e) = k (ix5 0 0 0 r e) := by
  pointwise [k0_pay8]

/-! ## The blocks -/

/-- The scores of a query of a block: its products with the keys, plus the bias. -/
def bsc (x0 : Vec Ideal S1x16x4x128x64 .bf16) (x1 : Vec Ideal S1x16x1x128x64 .bf16) (x3 : Vec Ideal S1x2x512x128 .f32)
    (j : Fin 16) (a : Fin 4) (r : Fin 128) (k : Fin 128) : EReal :=
  dot (fun e => x0 (ix5 0 j a r e)) (fun e => x1 (ix5 0 j 0 k e)) + x3 (ix4 0 1 ⟨a.val * 128 + r.val, by omega⟩ k)

theorem sc_eq (x0 : Vec Ideal S1x16x4x128x64 .bf16) (x1 : Vec Ideal S1x16x1x128x64 .bf16) (x3 : Vec Ideal S1x2x512x128 .f32)
    (k : Fin k0_t1_loop.trips) (a : Fin 4) (r : Fin 128) :
    sc (k0_pay7 (View.ld x0 (rq k))) (k0_pay8 (View.ld x1 (rk k))) (View.ld x3 rb) ⟨a.val * 128 + r.val, by omega⟩
      = bsc x0 x1 x3 (jOf k) a r := by
  funext j
  unfold sc bsc
  rw [ld_rb]
  refine congrArg (· + _) (congrArg₂ dot (funext fun e => ?_) (funext fun e => ?_))
  · rw [pay7_at, ld_rq]
  · rw [pay8_at, ld_rk]

theorem payO_at (x0 : Vec Ideal S1x16x4x128x64 .bf16) (x1 x2 : Vec Ideal S1x16x1x128x64 .bf16) (x3 : Vec Ideal S1x2x512x128 .f32)
    (k : Fin k0_t1_loop.trips) (a : Fin 4) (r : Fin 128) (e : Fin 64) :
    payO x0 x1 x2 x3 k (ix5 0 0 a r e)
      = attnOut (bsc x0 x1 x3 (jOf k) a r) (fun i => x2 (ix5 0 (jOf k) 0 i e)) := by
  unfold payO
  rw [pay5_at, sc_eq]
  exact congrArg _ (funext fun i => ld_rk x2 k i e)
theorem payL_at (x0 : Vec Ideal S1x16x4x128x64 .bf16) (x1 : Vec Ideal S1x16x1x128x64 .bf16) (x3 : Vec Ideal S1x2x512x128 .f32)
    (k : Fin k0_t1_loop.trips) (a : Fin 4) (r : Fin 128) :
    payL x0 x1 x3 k (ix5 0 0 0 r a) = attnLog (bsc x0 x1 x3 (jOf k) a r) := by
  unfold payL
  rw [pay6_at, sc_eq]

theorem emb_rq (k : Fin k0_t1_loop.trips) (a : Fin 4) (r : Fin 128) (e : Fin 64) :
    (rq k).emb (ix5 0 0 a r e) = (ix5 0 (jOf k) a r e : S1x16x4x128x64.Idx) := by
  funext d
  refine Fin.ext ((Rect.idx_unit_val _ _ _ _ d).trans ?_)
  refine (congrArg (· + _) (congrFun (off1_eq k) d)).trans ?_
  match d with
  | ⟨0, _⟩ => rfl
  | ⟨1, _⟩ => rfl
  | ⟨2, _⟩ => show 0 + a.val = a.val; omega
  | ⟨3, _⟩ => show 0 + r.val = r.val; omega
  | ⟨4, _⟩ => show 0 + e.val = e.val; omega
theorem emb_rl (k : Fin k0_t1_loop.trips) (a : Fin 4) (r : Fin 128) :
    (rl k).emb (ix5 0 0 0 r a) = (ix5 0 (jOf k) 0 r a : S1x16x1x128x4.Idx) := by
  funext d
  refine Fin.ext ((Rect.idx_unit_val _ _ _ _ d).trans ?_)
  refine (congrArg (· + _) (congrFun (off3_eq k) d)).trans ?_
  match d with
  | ⟨0, _⟩ => rfl
  | ⟨1, _⟩ => rfl
  | ⟨2, _⟩ => rfl
  | ⟨3, _⟩ => show 0 + r.val = r.val; omega
  | ⟨4, _⟩ => show 0 + a.val = a.val; omega

/-- The output block: each query's attention over the keys of its stretch. -/
theorem blockO (x0 : Vec Ideal S1x16x4x128x64 .bf16) (x1 x2 : Vec Ideal S1x16x1x128x64 .bf16) (x3 : Vec Ideal S1x2x512x128 .f32)
    (y : S1x16x4x128x64.Idx) :
    outO x0 x1 x2 x3 y = attnOut (bsc x0 x1 x3 (y 1) (y 2) (y 3)) (fun i => x2 (ix5 0 (y 1) 0 i (y 4))) := by
  refine View.canon_apply_of_pieces (fun y : S1x16x4x128x64.Idx => attnOut (bsc x0 x1 x3 (y 1) (y 2) (y 3)) (fun i => x2 (ix5 0 (y 1) 0 i (y 4)))) _
    (fun p hp x => ?_) y (coverO x0 x1 x2 x3 y)
  obtain ⟨k, rfl⟩ := of_mem_stO _ _ _ _ _ p hp
  obtain ⟨z, o, a, r, e, rfl⟩ : ∃ (z o : Fin 1) (a : Fin 4) (r : Fin 128) (e : Fin 64), x = (ix5 z o a r e : S1x1x4x128x64.Idx) :=
    ⟨x 0, x 1, x 2, x 3, x 4, (ix5_eta (x : S1x1x4x128x64.Idx)).symm⟩
  obtain rfl : z = 0 := Subsingleton.elim _ _
  obtain rfl : o = 0 := Subsingleton.elim _ _
  refine (payO_at x0 x1 x2 x3 k a r e).trans ?_
  rw [emb_rq]
  rfl
/-- The block of logs. -/
theorem blockL (x0 : Vec Ideal S1x16x4x128x64 .bf16) (x1 : Vec Ideal S1x16x1x128x64 .bf16) (x3 : Vec Ideal S1x2x512x128 .f32)
    (y : S1x16x1x128x4.Idx) :
    outL x0 x1 x3 y = attnLog (bsc x0 x1 x3 (y 1) (y 4) (y 3)) := by
  refine View.canon_apply_of_pieces (fun y : S1x16x1x128x4.Idx => attnLog (bsc x0 x1 x3 (y 1) (y 4) (y 3))) _
    (fun p hp x => ?_) y (coverL x0 x1 x3 y)
  obtain ⟨k, rfl⟩ := of_mem_stL _ _ _ _ p hp
  obtain ⟨z, o, w, r, a, rfl⟩ : ∃ (z o w : Fin 1) (r : Fin 128) (a : Fin 4), x = (ix5 z o w r a : S1x1x1x128x4.Idx) :=
    ⟨x 0, x 1, x 2, x 3, x 4, (ix5_eta (x : S1x1x1x128x4.Idx)).symm⟩
  obtain rfl : z = 0 := Subsingleton.elim _ _
  obtain rfl : o = 0 := Subsingleton.elim _ _
  obtain rfl : w = 0 := Subsingleton.elim _ _
  refine (payL_at x0 x1 x3 k a r).trans ?_
  rw [emb_rl]
  rfl

end Cert.DilIdeal.Mine
-- ==== Proof.DilPad.lean ====
module

public import Idealize.ShloMosaic.Lib.KernelVsHost
public import proofs.«01_k».proof.Proof.AttnSpec

@[expose] public section

noncomputable section

/-! A window of 256 keys whose first 128 are padding. -/

namespace Cert.Layer

open Idealize.ShloMosaic

/-- The greatest of 256 scores, the first 128 of which are minus infinity. -/
theorem topOf_padded (s : Fin 128 → EReal) (S : Fin 256 → EReal)
    (h0 : ∀ k : Fin 128, S ⟨k.val, by omega⟩ = ⊥) (h1 : ∀ k : Fin 128, S ⟨128 + k.val, by omega⟩ = s k) :
    Finset.univ.fold max ⊥ S = topOf s := by
  show Finset.univ.sup S = Finset.univ.sup s
  refine le_antisymm (Finset.sup_le fun k _ => ?_) (Finset.sup_le fun k _ => ?_)
  · by_cases hk : k.val < 128
    · rw [show k = ⟨(⟨k.val, hk⟩ : Fin 128).val, k.isLt⟩ from rfl, h0]; exact bot_le
    · have e : k = ⟨128 + (⟨k.val - 128, by omega⟩ : Fin 128).val, by simp only; omega⟩ := Fin.ext (by simp only; omega)
      rw [e, h1]
      exact Finset.le_sup (f := s) (Finset.mem_univ _)
  · rw [← h1 k]
    exact Finset.le_sup (f := S) (Finset.mem_univ _)

/-- A sum of 256 terms, the first 128 of which are zero. -/
theorem sum_padded (s : Fin 128 → EReal) (S : Fin 256 → EReal)
    (h0 : ∀ k : Fin 128, S ⟨k.val, by omega⟩ = 0) (h1 : ∀ k : Fin 128, S ⟨128 + k.val, by omega⟩ = s k) :
    ∑ k, S k = ∑ k, s k := by
  have e := Fin.sum_univ_add (a := 128) (b := 128) (fun k => S k)
  refine (e.trans ?_)
  have hz : ∑ i : Fin 128, S (Fin.castAdd 128 i) = 0 := Finset.sum_eq_zero fun k _ => h0 k
  rw [hz, zero_add]
  exact Finset.sum_congr rfl fun k _ => h1 k

end Cert.Layer
-- ==== Proof.DilSpec.lean ====
module

public import proofs.«01_k».proof.Proof.DilPad
public import proofs.«01_k».proof.Proof.Spec

@[expose] public section

set_option maxRecDepth 16384

noncomputable section

/-! What the dilated call computes, said once for kernel and reference. A stretch `d` of sequence `b` is the 128 tokens
    at the places `16 i + d`; a query looks at the keys of its own stretch, with the table's value added to each score. -/

namespace Cert.Layer

open Idealize.ShloMosaic Idealize.ShloMosaic.TcCoe

/-- The row of a stretch's token. -/
def tok (b : Fin 32) (d : Fin 16) (i : Fin 128) : Fin 65536 := ⟨b.val * 2048 + i.val * 16 + d.val, by omega⟩

/-- The scores of a query before the mask. -/
def plain (A : FVec Ideal ⟨2, ![65536, 3072]⟩ .bf16) (B : FVec Ideal ⟨2, ![65536, 1536]⟩ .bf16)
    (b : Fin 32) (d : Fin 16) (g a : Fin 4) (r k : Fin 128) : EReal :=
  dot (fun e : Fin 64 => A (ix2 (tok b d r) ⟨2048 + ((g.val * 4 + a.val) * 64 + e.val), by omega⟩))
    (fun e : Fin 64 => B (ix2 (tok b d k) ⟨1024 + (g.val * 64 + e.val), by omega⟩))

/-- The scores of a query: products with the keys plus what the table holds for the two, whatever that is. -/
def dscore (A : FVec Ideal ⟨2, ![65536, 3072]⟩ .bf16) (B : FVec Ideal ⟨2, ![65536, 1536]⟩ .bf16) (T : FVec Ideal ⟨4, ![4, 2, 512, 128]⟩ .f32)
    (b : Fin 32) (d : Fin 16) (g a : Fin 4) (r k : Fin 128) : EReal :=
  plain A B b d g a r k + T (ix4 g 1 ⟨a.val * 128 + r.val, by omega⟩ k)

/-- A feature of the values of a stretch. -/
def dvalue (B : FVec Ideal ⟨2, ![65536, 1536]⟩ .bf16) (b : Fin 32) (d : Fin 16) (g : Fin 4) (e : Fin 64) (k : Fin 128) : EReal :=
  B (ix2 (tok b d k) ⟨1280 + (g.val * 64 + e.val), by omega⟩)

/-- The outputs. -/
def dilOut (A : FVec Ideal ⟨2, ![65536, 3072]⟩ .bf16) (B : FVec Ideal ⟨2, ![65536, 1536]⟩ .bf16) (T : FVec Ideal ⟨4, ![4, 2, 512, 128]⟩ .f32) :
    FVec Ideal ⟨5, ![32, 16, 16, 128, 64]⟩ .bf16 := fun i =>
  attnOut (dscore A B T (i 0) (i 1) ⟨(i 2).val / 4, by have : (i 2).val < 16 := (i 2).isLt; omega⟩ ⟨(i 2).val % 4, by omega⟩ (i 3))
    (dvalue B (i 0) (i 1) ⟨(i 2).val / 4, by have : (i 2).val < 16 := (i 2).isLt; omega⟩ (i 4))

/-- The logs of the sums of exponentials. -/
def dilLog (A : FVec Ideal ⟨2, ![65536, 3072]⟩ .bf16) (B : FVec Ideal ⟨2, ![65536, 1536]⟩ .bf16) (T : FVec Ideal ⟨4, ![4, 2, 512, 128]⟩ .f32) :
    FVec Ideal ⟨5, ![32, 16, 4, 128, 4]⟩ .f32 := fun i => attnLog (dscore A B T (i 0) (i 1) (i 2) (i 4) (i 3))

/-- An output read by key head and query of its group. -/
theorem dilOut_at (A : FVec Ideal ⟨2, ![65536, 3072]⟩ .bf16) (B : FVec Ideal ⟨2, ![65536, 1536]⟩ .bf16) (T : FVec Ideal ⟨4, ![4, 2, 512, 128]⟩ .f32)
    (b : Fin 32) (d : Fin 16) (g a : Fin 4) (r : Fin 128) (e : Fin 64) (h : Fin 16) (hh : h.val = g.val * 4 + a.val) :
    dilOut A B T (ix5 b d h r e) = attnOut (dscore A B T b d g a r) (dvalue B b d g e) := by
  have hg : (⟨h.val / 4, by omega⟩ : Fin 4) = g := Fin.ext (by simp only; omega)
  have ha : (⟨h.val % 4, by omega⟩ : Fin 4) = a := Fin.ext (by simp only; omega)
  show attnOut (dscore A B T b d ⟨h.val / 4, _⟩ ⟨h.val % 4, _⟩ r) (dvalue B b d ⟨h.val / 4, _⟩ e) = _
  rw [hg, ha]

end Cert.Layer
-- ==== Proof.DilArray.lean ====
module

public import proofs.«01_k».proof.Proof.DilBlock
public import proofs.«01_k».proof.Proof.DilSpec

@[expose] public section

set_option maxRecDepth 16384

noncomputable section

/-! What the two result arrays of the dilated call hold after the run. -/

namespace Cert.DilIdeal.Mine

open Cert.DilIdeal Cert.DilIdeal.Gen Idealize.ShloMosaic Idealize.ShloMosaic.TcCoe Idealize.SL.Sem Cert.Layer
open Idealize.ShloMosaic.Pipeline (Dat)

variable (m : (ℓ : Loc nD τ sig) → Buf (Elt Ideal) ℓ)

/-- The block index of every window at every grid point. -/
theorem idx_val : ∀ t : Fin cfg0.N, win0_0.index t = ![t.val / 4, 0, t.val % 4, 0, 0] ∧ win0_1.index t = ![t.val / 4, 0, t.val % 4, 0, 0]
    ∧ win0_2.index t = ![t.val / 4, 0, t.val % 4, 0, 0] ∧ win0_3.index t = ![t.val % 4, 0, 0, 0]
    ∧ win0_4.index t = ![t.val / 4, 0, t.val % 4, 0, 0] ∧ win0_5.index t = ![t.val / 4, 0, t.val % 4, 0, 0] :=
  (by decide +kernel : ∀ t : Fin grid0.N, _)

/-- A query: its row is the stretch's, strided by 16. -/
theorem query (c : Dev nD) (t : Fin cfg0.N) (j : Fin 16) (a : Fin 4) (r : Fin 128) (e : Fin 64) :
    iblk m c 0 t (ix5 0 j a r e) = m ((c : Thread nD τ).loc main_arg0)
      (ix2 ⟨t.val / 4 * 2048 + r.val * 16 + j.val, by have : t.val < 128 := t.isLt; omega⟩
        ⟨2048 + ((t.val % 4 * 4 + a.val) * 64 + e.val), by omega⟩) := by
  have e' : iblk m c 0 t (ix5 0 j a r e) = V m c main_v2 (ix5 ⟨t.val / 4, by have : t.val < 128 := t.isLt; omega⟩ j
      ⟨t.val % 4 * 4 + a.val, by omega⟩ r e) := by blk_ext [iblk, idx_val t]
  rw [e']
  simp only [V, hostOps0, List.flatten_cons, List.flatten_nil, List.append_nil, List.cons_append, List.nil_append]
  after_results
  pointwise

/-- A key of the stretch. -/
theorem key (c : Dev nD) (t : Fin cfg0.N) (j : Fin 16) (r : Fin 128) (e : Fin 64) :
    iblk m c 1 t (ix5 0 j 0 r e) = m ((c : Thread nD τ).loc main_arg1)
      (ix2 ⟨t.val / 4 * 2048 + r.val * 16 + j.val, by have : t.val < 128 := t.isLt; omega⟩
        ⟨1024 + (t.val % 4 * 64 + e.val), by omega⟩) := by
  have e' : iblk m c 1 t (ix5 0 j 0 r e) = V m c main_v5 (ix5 ⟨t.val / 4, by have : t.val < 128 := t.isLt; omega⟩ j
      ⟨t.val % 4, by omega⟩ r e) := by blk_ext [iblk, idx_val t]
  rw [e']
  simp only [V, hostOps0, List.flatten_cons, List.flatten_nil, List.append_nil, List.cons_append, List.nil_append]
  after_results
  pointwise

/-- A value of the stretch. -/
theorem value (c : Dev nD) (t : Fin cfg0.N) (j : Fin 16) (r : Fin 128) (e : Fin 64) :
    iblk m c 2 t (ix5 0 j 0 r e) = m ((c : Thread nD τ).loc main_arg1)
      (ix2 ⟨t.val / 4 * 2048 + r.val * 16 + j.val, by have : t.val < 128 := t.isLt; omega⟩
        ⟨1280 + (t.val % 4 * 64 + e.val), by omega⟩) := by
  have e' : iblk m c 2 t (ix5 0 j 0 r e) = V m c main_v8 (ix5 ⟨t.val / 4, by have : t.val < 128 := t.isLt; omega⟩ j
      ⟨t.val % 4, by omega⟩ r e) := by blk_ext [iblk, idx_val t]
  rw [e']
  simp only [V, hostOps0, List.flatten_cons, List.flatten_nil, List.append_nil, List.cons_append, List.nil_append]
  after_results
  pointwise

/-- The table's entry for a query and a key of its stretch. -/
theorem bias (c : Dev nD) (t : Fin cfg0.N) (a : Fin 4) (r k : Fin 128) :
    iblk m c 3 t (ix4 0 1 ⟨a.val * 128 + r.val, by omega⟩ k) = m ((c : Thread nD τ).loc main_arg2)
      (ix4 ⟨t.val % 4, by omega⟩ 1 ⟨a.val * 128 + r.val, by omega⟩ k) := by
  have e' : iblk m c 3 t (ix4 0 1 ⟨a.val * 128 + r.val, by omega⟩ k)
      = V m c main_arg2 (ix4 ⟨t.val % 4, by omega⟩ 1 ⟨a.val * 128 + r.val, by omega⟩ k) := by blk_ext [iblk, idx_val t]
  rw [e', V_main_arg2]

/-- The scores of a block. -/
theorem scores (c : Dev nD) (t : Fin cfg0.N) (j : Fin 16) (a : Fin 4) (r : Fin 128) :
    bsc (iblk m c 0 t) (iblk m c 1 t) (iblk m c 3 t) j a r
      = dscore (m ((c : Thread nD τ).loc main_arg0)) (m ((c : Thread nD τ).loc main_arg1)) (m ((c : Thread nD τ).loc main_arg2))
          ⟨t.val / 4, by have : t.val < 128 := t.isLt; omega⟩ j ⟨t.val % 4, by omega⟩ a r := by
  funext k
  unfold bsc dscore
  rw [bias]
  refine congrArg (· + _) (congrArg₂ dot (funext fun e => ?_) (funext fun e => ?_))
  · exact query m c t j a r e
  · exact key m c t j k e

/-- What a grid point stores of the outputs. -/
theorem point4 (c : Dev nD) (t : Fin cfg0.N) (y) :
    outO (iblk m c 0 t) (iblk m c 1 t) (iblk m c 2 t) (iblk m c 3 t) y
      = dilOut (m ((c : Thread nD τ).loc main_arg0)) (m ((c : Thread nD τ).loc main_arg1)) (m ((c : Thread nD τ).loc main_arg2))
          (((cfg0.win 4).blk t).view.emb y) := by
  refine (blockO _ _ _ _ y).trans ?_
  have e : (((cfg0.win 4).blk t).view.emb y) = ix5 ⟨t.val / 4, by have : t.val < 128 := t.isLt; omega⟩ (y 1)
      ⟨t.val % 4 * 4 + (y 2).val, by have : (y 2).val < 4 := (y 2).isLt; omega⟩ (y 3) (y 4) := by
    funext d
    refine Fin.ext ?_
    match d with
    | ⟨0, _⟩ => blk_simp [idx_val t]
    | ⟨1, _⟩ => blk_simp [idx_val t]; rfl
    | ⟨2, _⟩ => blk_simp [idx_val t]; rfl
    | ⟨3, _⟩ => blk_simp [idx_val t]; rfl
    | ⟨4, _⟩ => blk_simp [idx_val t]; rfl
  rw [e]
  refine Eq.trans ?_ (dilOut_at _ _ _ _ _ ⟨t.val % 4, by omega⟩ (y 2) _ _ _ rfl).symm
  exact congrArg₂ attnOut (scores m c t _ _ _) (funext fun k => value m c t _ _ _)

/-- What a grid point stores of the logs. -/
theorem point5 (c : Dev nD) (t : Fin cfg0.N) (y) :
    outL (iblk m c 0 t) (iblk m c 1 t) (iblk m c 3 t) y
      = dilLog (m ((c : Thread nD τ).loc main_arg0)) (m ((c : Thread nD τ).loc main_arg1)) (m ((c : Thread nD τ).loc main_arg2))
          (((cfg0.win 5).blk t).view.emb y) := by
  refine (blockL _ _ _ y).trans ?_
  have e : (((cfg0.win 5).blk t).view.emb y) = ix5 ⟨t.val / 4, by have : t.val < 128 := t.isLt; omega⟩ (y 1)
      ⟨t.val % 4, by omega⟩ (y 3) (y 4) := by
    funext d
    refine Fin.ext ?_
    match d with
    | ⟨0, _⟩ => blk_simp [idx_val t]
    | ⟨1, _⟩ => blk_simp [idx_val t]; rfl
    | ⟨2, _⟩ => blk_simp [idx_val t]
    | ⟨3, _⟩ => blk_simp [idx_val t]; rfl
    | ⟨4, _⟩ => blk_simp [idx_val t]; rfl
  rw [e]
  exact congrArg attnLog (scores m c t _ _ _)

/-- After the run the outputs are `dilOut` of the arguments. -/
theorem final4 (c : Dev nD) : (dats m 0 c).arrAt 4 (cfgs 0).N
    = dilOut (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- After the run the logs are `dilLog` of the arguments. -/
theorem final5 (c : Dev nD) : (dats m 0 c).arrAt 5 (cfgs 0).N
    = dilLog (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

end Cert.DilIdeal.Mine
-- ==== Proof.DilRefA.lean ====
module

public import proofs.«01_k».proof.Proof.Gen.DilRefIdeal.Run
public import proofs.«01_k».proof.Proof.DilSpec

@[expose] public section

set_option maxRecDepth 16384

noncomputable section

/-! The queries, keys and values of the dilated call's reference, cut into stretches. -/

namespace Cert.DilRefIdeal.Mine

open Cert.DilRefIdeal Cert.DilRefIdeal.Gen Idealize.ShloMosaic Idealize.ShloMosaic.TcCoe Idealize.SL.Sem Cert.Layer

/-- The number of a stretch. -/
def st (b : Fin 32) (d : Fin 16) : Fin 512 := ⟨b.val * 16 + d.val, by omega⟩

/-- The queries by stretch. -/
def qR (A : FVec Ideal S65536x3072 .bf16) : FVec Ideal S512x128x4x4x64 .f32 :=
  shapeCast _ (transpose S32x16x128x4x4x64 [0, 2, 1, 3, 4, 5] (shapeCast _ (shapeCast _ (extractStridedSlice S32x2048x1x4x4x64 ![0, 0, 2, 0, 0, 0] (shapeCast _ (extf .f32 A bitsLt_bf16_f32) shapeCasts_S65536x3072_S32x2048x3x4x4x64) slices_S32x2048x3x4x4x64_S32x2048x1x4x4x64_0_0_2_0_0_0) shapeCasts_S32x2048x1x4x4x64_S32x2048x4x4x64) shapeCasts_S32x2048x4x4x64_S32x128x16x4x4x64) transposes_S32x128x16x4x4x64_S32x16x128x4x4x64_0_2_1_3_4_5) shapeCasts_S32x16x128x4x4x64_S512x128x4x4x64

theorem qR_at (A : FVec Ideal S65536x3072 .bf16) (b : Fin 32) (d : Fin 16) (r : Fin 128) (g a : Fin 4) (e : Fin 64) :
    qR A (ix5 (st b d) r g a e) = A (ix2 (tok b d r) ⟨2048 + ((g.val * 4 + a.val) * 64 + e.val), by omega⟩) := by
  have e' : qR A (ix5 (st b d) r g a e) = A (ix2 ⟨b.val * 2048 + (r.val * 16 + d.val), by omega⟩ ⟨2048 + g.val * 256 + a.val * 64 + e.val, by omega⟩) := by
    pointwise [qR, st]
  exact e'.trans (congrArg A (congrArg₂ ix2 (Fin.ext (by simp only [tok]; omega)) (Fin.ext (by simp only; omega))))

/-- The queries, padded by nothing and split into one block. -/
def qW (Q : FVec Ideal S512x128x4x4x64 .f32) : FVec Ideal S512x1x128x4x4x64 .f32 :=
  shapeCast _ (pad S512x128x4x4x64 ![0, 0, 0, 0, 0] ![0, 0, 0, 0, 0] ![0, 0, 0, 0, 0] Q (sitofp .f32 (constantI S_ 32 0#32)) pads_S512x128x4x4x64_S512x128x4x4x64_000_000_000_000_000 h_S_) shapeCasts_S512x128x4x4x64_S512x1x128x4x4x64

theorem split_at (P : FVec Ideal S512x128x4x4x64 .f32) (n : Fin 512) (r : Fin 128) (g a : Fin 4) (e : Fin 64) :
    (shapeCast _ P shapeCasts_S512x128x4x4x64_S512x1x128x4x4x64 : FVec Ideal S512x1x128x4x4x64 .f32) (ix6 n 0 r g a e) = P (ix5 n r g a e) := by
  pointwise

theorem qW_at (Q : FVec Ideal S512x128x4x4x64 .f32) (n : Fin 512) (r : Fin 128) (g a : Fin 4) (e : Fin 64) :
    qW Q (ix6 n 0 r g a e) = Q (ix5 n r g a e) := by
  unfold qW
  refine (split_at _ n r g a e).trans (pad_apply_of_inside _ _ _ _ _ _ _ _ (ix5 n r g a e) fun x => ?_)
  fin_cases x <;> simp [ix5]

/-- The keys by stretch. -/
def kR (B : FVec Ideal S65536x1536 .bf16) : FVec Ideal S512x128x4x64 .f32 :=
  shapeCast _ (transpose S32x16x128x4x64 [0, 2, 1, 3, 4] (shapeCast _ (shapeCast _ (extractStridedSlice S32x2048x1x4x64 ![0, 0, 2, 0, 0] (shapeCast _ (extractStridedSlice S32x2048x3x1x4x64 ![0, 0, 0, 0, 0, 0] (shapeCast _ (extf .f32 B bitsLt_bf16_f32) shapeCasts_S65536x1536_S32x2048x3x2x4x64) slices_S32x2048x3x2x4x64_S32x2048x3x1x4x64_0_0_0_0_0_0) shapeCasts_S32x2048x3x1x4x64_S32x2048x3x4x64) slices_S32x2048x3x4x64_S32x2048x1x4x64_0_0_2_0_0) shapeCasts_S32x2048x1x4x64_S32x2048x4x64) shapeCasts_S32x2048x4x64_S32x128x16x4x64) transposes_S32x128x16x4x64_S32x16x128x4x64_0_2_1_3_4) shapeCasts_S32x16x128x4x64_S512x128x4x64

theorem kR_at (B : FVec Ideal S65536x1536 .bf16) (b : Fin 32) (d : Fin 16) (k : Fin 128) (g : Fin 4) (e : Fin 64) :
    kR B (ix4 (st b d) k g e) = B (ix2 (tok b d k) ⟨1024 + (g.val * 64 + e.val), by omega⟩) := by
  have e' : kR B (ix4 (st b d) k g e) = B (ix2 ⟨b.val * 2048 + (k.val * 16 + d.val), by omega⟩ ⟨1024 + g.val * 64 + e.val, by omega⟩) := by
    pointwise [kR, st]
  exact e'.trans (congrArg B (congrArg₂ ix2 (Fin.ext (by simp only [tok]; omega)) (Fin.ext (by simp only; omega))))

/-- The values by stretch. -/
def vR (B : FVec Ideal S65536x1536 .bf16) : FVec Ideal S512x128x4x64 .f32 :=
  shapeCast _ (transpose S32x16x128x4x64 [0, 2, 1, 3, 4] (shapeCast _ (shapeCast _ (extractStridedSlice S32x2048x1x4x64 ![0, 0, 2, 0, 0] (shapeCast _ (extractStridedSlice S32x2048x3x1x4x64 ![0, 0, 0, 1, 0, 0] (shapeCast _ (extf .f32 B bitsLt_bf16_f32) shapeCasts_S65536x1536_S32x2048x3x2x4x64) slices_S32x2048x3x2x4x64_S32x2048x3x1x4x64_0_0_0_1_0_0) shapeCasts_S32x2048x3x1x4x64_S32x2048x3x4x64) slices_S32x2048x3x4x64_S32x2048x1x4x64_0_0_2_0_0) shapeCasts_S32x2048x1x4x64_S32x2048x4x64) shapeCasts_S32x2048x4x64_S32x128x16x4x64) transposes_S32x128x16x4x64_S32x16x128x4x64_0_2_1_3_4) shapeCasts_S32x16x128x4x64_S512x128x4x64

theorem vR_at (B : FVec Ideal S65536x1536 .bf16) (b : Fin 32) (d : Fin 16) (k : Fin 128) (g : Fin 4) (e : Fin 64) :
    vR B (ix4 (st b d) k g e) = B (ix2 (tok b d k) ⟨1280 + (g.val * 64 + e.val), by omega⟩) := by
  have e' : vR B (ix4 (st b d) k g e) = B (ix2 ⟨b.val * 2048 + (k.val * 16 + d.val), by omega⟩ ⟨1280 + g.val * 64 + e.val, by omega⟩) := by
    pointwise [vR, st]
  exact e'.trans (congrArg B (congrArg₂ ix2 (Fin.ext (by simp only [tok]; omega)) (Fin.ext (by simp only; omega))))

/-- Keys or values with a block of zeros before them. -/
def padW (K : FVec Ideal S512x128x4x64 .f32) : FVec Ideal S512x256x4x64 .f32 :=
  pad S512x256x4x64 ![0, 128, 0, 0] ![0, 0, 0, 0] ![0, 0, 0, 0] (pad S512x128x4x64 ![0, 0, 0, 0] ![0, 0, 0, 0] ![0, 0, 0, 0] K (sitofp .f32 (constantI S_ 32 0#32)) pads_S512x128x4x64_S512x128x4x64_000_000_000_000 h_S_) (sitofp .f32 (constantI S_ 32 0#32)) pads_S512x128x4x64_S512x256x4x64_000_12800_000_000 h_S_

theorem padW_lo (K : FVec Ideal S512x128x4x64 .f32) (n : Fin 512) (k : Fin 128) (g : Fin 4) (e : Fin 64) :
    padW K (ix4 n ⟨k.val, by omega⟩ g e) = (0 : EReal) := by
  unfold padW
  refine (pad_apply_of_not_inside _ _ _ _ _ _ _ _ (1 : Fin 4) ?_).trans ?_
  · simp [ix4]
  · show ((((0#32 : BitVec 32).toInt : ℝ)) : EReal) = 0
    simp

theorem padW_hi (K : FVec Ideal S512x128x4x64 .f32) (n : Fin 512) (k : Fin 128) (g : Fin 4) (e : Fin 64) :
    padW K (ix4 n ⟨128 + k.val, by omega⟩ g e) = K (ix4 n k g e) := by
  unfold padW
  refine (pad_apply_of_inside _ _ _ _ _ _ _ _ (ix4 n k g e) fun x => ?_).trans
    (pad_apply_of_inside _ _ _ _ _ _ _ _ (ix4 n k g e) fun x => ?_)
  · fin_cases x <;> simp [ix4]
  · fin_cases x <;> simp [ix4]

/-- A block and the one before it side by side. -/
def catW (P : FVec Ideal S512x256x4x64 .f32) : FVec Ideal S512x1x256x4x64 .f32 :=
  concatenate S512x1x256x4x64 2 [⟨S512x1x128x4x64, (extractStridedSlice S512x1x128x4x64 ![0, 0, 0, 0, 0] (shapeCast _ P shapeCasts_S512x256x4x64_S512x2x128x4x64) slices_S512x2x128x4x64_S512x1x128x4x64_0_0_0_0_0)⟩, ⟨S512x1x128x4x64, (extractStridedSlice S512x1x128x4x64 ![0, 1, 0, 0, 0] (shapeCast _ P shapeCasts_S512x256x4x64_S512x2x128x4x64) slices_S512x2x128x4x64_S512x1x128x4x64_0_1_0_0_0)⟩] concatenates_S512x1x128x4x64_S512x1x128x4x64_S512x1x256x4x64_d2

theorem catW_lo (P : FVec Ideal S512x256x4x64 .f32) (n : Fin 512) (k : Fin 128) (g : Fin 4) (e : Fin 64) :
    catW P (ix5 n 0 ⟨k.val, by omega⟩ g e) = P (ix4 n ⟨k.val, by omega⟩ g e) := by
  pointwise [catW]

theorem catW_hi (P : FVec Ideal S512x256x4x64 .f32) (n : Fin 512) (k : Fin 128) (g : Fin 4) (e : Fin 64) :
    catW P (ix5 n 0 ⟨128 + k.val, by omega⟩ g e) = P (ix4 n ⟨128 + k.val, by omega⟩ g e) := by
  pointwise [catW]

end Cert.DilRefIdeal.Mine
-- ==== Proof.DilRefB.lean ====
module

public import proofs.«01_k».proof.Proof.Gen.DilRefIdeal.Run
public import proofs.«01_k».proof.Proof.DilSpec

@[expose] public section

set_option maxRecDepth 16384

noncomputable section

/-! Mask and table of the dilated call's reference, over its window of 256 keys. -/

namespace Cert.DilRefIdeal.Mine

open Cert.DilRefIdeal Cert.DilRefIdeal.Gen Idealize.ShloMosaic Idealize.ShloMosaic.TcCoe Idealize.SL.Sem Cert.Layer

/-- Which keys of the window are there. -/
def maskW : IVec S1x128x256 1 :=
  broadcastInDim S1x128x256 ![0, 1, 2] bcast_S1x1x256_S1x128x256_0_1_2 (cmpi .sge (addi (broadcastInDim S1x1x256 ![0, 1, 2] bcast_S1x1x1_S1x1x256_0_1_2 (subi (muli (broadcastInDim S1x1x1 ![0] bcast_S1_S1x1x1_0 (iotaInDim S1 32 0)) (broadcastInDim S1x1x1 ![] bcast_S_S1x1x1 (constantI S_ 32 128#32))) (broadcastInDim S1x1x1 ![] bcast_S_S1x1x1 (constantI S_ 32 128#32)))) (broadcastInDim S1x1x256 ![1, 2] bcast_S1x256_S1x1x256_1_2 (broadcastInDim S1x256 ![1] bcast_S256_S1x256_1 (iotaInDim S256 32 0)))) (broadcastInDim S1x1x256 ![] bcast_S_S1x1x256 (constantI S_ 32 0#32)))

/-- The comparison of the mask, on numbers. -/
def maskNum (k : ℕ) : BitVec 1 :=
  cmpi .sge (fun _ : S_.Idx => BitVec.ofNat 32 0 * 128#32 - 128#32 + BitVec.ofNat 32 k) (constantI S_ 32 0#32) (fun a => a.elim0)

theorem maskNum_lo : ∀ k : Fin 128, maskNum k.val = 0#1 := by decide +kernel

theorem maskNum_hi : ∀ k : Fin 128, maskNum (128 + k.val) = 1#1 := by decide +kernel

theorem maskW_lo (r k : Fin 128) : maskW (ix3 0 r ⟨k.val, by omega⟩) = 0#1 := maskNum_lo k

theorem maskW_hi (r k : Fin 128) : maskW (ix3 0 r ⟨128 + k.val, by omega⟩) = 1#1 := maskNum_hi k

/-- The table by query and key of the window. -/
def tabW (T : FVec Ideal S4x2x512x128 .f32) : FVec Ideal S4x4x128x256 .f32 :=
  shapeCast _ (transpose S4x4x128x2x128 [0, 2, 3, 1, 4] (shapeCast _ T shapeCasts_S4x2x512x128_S4x2x4x128x128) transposes_S4x2x4x128x128_S4x4x128x2x128_0_2_3_1_4) shapeCasts_S4x4x128x2x128_S4x4x128x256

theorem tabW_hi (T : FVec Ideal S4x2x512x128 .f32) (g a : Fin 4) (r k : Fin 128) :
    tabW T (ix4 g a r ⟨128 + k.val, by omega⟩) = T (ix4 g 1 ⟨a.val * 128 + r.val, by omega⟩ k) := by
  have e : (1 : Fin 2) = ⟨(128 + k.val) / 128, by omega⟩ := Fin.ext (by show 1 = (128 + k.val) / 128; omega)
  rw [e]
  pointwise [tabW]

/-- The table laid over the scores. -/
def overB (G : FVec Ideal S4x4x128x256 .f32) : FVec Ideal S512x1x4x4x128x256 .f32 :=
  broadcastInDim S512x1x4x4x128x256 ![0, 1, 2, 3, 4, 5] bcast_S1x1x4x4x128x256_S512x1x4x4x128x256_0_1_2_3_4_5 (broadcastInDim S1x1x4x4x128x256 ![2, 3, 4, 5] bcast_S4x4x128x256_S1x1x4x4x128x256_2_3_4_5 G)

theorem overB_at (G : FVec Ideal S4x4x128x256 .f32) (n : Fin 512) (g a : Fin 4) (r : Fin 128) (k : Fin 256) :
    overB G (ix6 n 0 g a r k) = G (ix4 g a r k) := by
  pointwise [overB]

/-- The mask laid over the scores. -/
def overM (M : IVec S1x128x256 1) : IVec S512x1x4x4x128x256 1 :=
  broadcastInDim S512x1x4x4x128x256 ![0, 1, 2, 3, 4, 5] bcast_S1x1x1x1x128x256_S512x1x4x4x128x256_0_1_2_3_4_5 (broadcastInDim S1x1x1x1x128x256 ![1, 4, 5] bcast_S1x128x256_S1x1x1x1x128x256_1_4_5 M)

theorem overM_at (M : IVec S1x128x256 1) (n : Fin 512) (g a : Fin 4) (r : Fin 128) (k : Fin 256) :
    overM M (ix6 n 0 g a r k) = M (ix3 0 r k) := by
  pointwise [overM]

end Cert.DilRefIdeal.Mine
-- ==== Proof.DilRefC.lean ====
module

public import proofs.«01_k».proof.Proof.Gen.DilRefIdeal.Run
public import proofs.«01_k».proof.Proof.DilSpec

@[expose] public section

set_option maxRecDepth 16384

noncomputable section

/-! Masked softmax of the dilated call's reference, over its window of 256 keys. -/

namespace Cert.DilRefIdeal.Mine

open Cert.DilRefIdeal Cert.DilRefIdeal.Gen Idealize.ShloMosaic Idealize.ShloMosaic.TcCoe Idealize.SL.Sem Cert.Layer

/-- The places that a reduction over the last axis brings to one place. -/
theorem fiber (n : Fin 512) (g a : Fin 4) (r : Fin 128) (i : S512x1x4x4x128x256.Idx) :
    reducesTo_S512x1x4x4x128x256_S512x1x4x4x128_d5.drop i = (ix5 n 0 g a r : S512x1x4x4x128.Idx)
      ↔ ∃ k : Fin 256, (ix6 n 0 g a r k : S512x1x4x4x128x256.Idx) = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A sum over them is a sum over the last axis. -/
theorem sum_last (v : S512x1x4x4x128x256.Idx → EReal) (n : Fin 512) (g a : Fin 4) (r : Fin 128) :
    Ideal.hostReduceAdd reducesTo_S512x1x4x4x128x256_S512x1x4x4x128_d5 v 0 (ix5 n 0 g a r) = ∑ k : Fin 256, v (ix6 n 0 g a r k) := by
  refine Eq.trans ?_ ((Finset.sum_filter_eq_sum_of_fiber (fun i => reducesTo_S512x1x4x4x128x256_S512x1x4x4x128_d5.drop i = (ix5 n 0 g a r : S512x1x4x4x128.Idx))
    (fun k : Fin 256 => (ix6 n 0 g a r k : S512x1x4x4x128x256.Idx)) (fun _ _ e => congrFun e 5) (fiber n g a r) v))
  rw [← zero_add (Finset.sum _ _)]
  rfl

/-- A fold over them is a fold over the last axis. -/
theorem fold_last (v : S512x1x4x4x128x256.Idx → EReal) (z : EReal) (n : Fin 512) (g a : Fin 4) (r : Fin 128) :
    (Finset.univ.filter (fun i => reducesTo_S512x1x4x4x128x256_S512x1x4x4x128_d5.drop i = (ix5 n 0 g a r : S512x1x4x4x128.Idx))).fold max z v
      = Finset.univ.fold max z (fun k : Fin 256 => v (ix6 n 0 g a r k)) :=
  Finset.fold_filter_eq_fold_of_fiber max _ (fun k : Fin 256 => (ix6 n 0 g a r k : S512x1x4x4x128x256.Idx)) (fun _ _ e => congrFun e 5)
    (fiber n g a r) z v

/-- The products of queries and keys. -/
def prodW (K : FVec Ideal S512x1x256x4x64 .f32) (Q : FVec Ideal S512x1x128x4x4x64 .f32) : FVec Ideal S512x1x4x4x128x256 .f32 :=
  transpose S512x1x4x4x128x256 [0, 1, 2, 5, 4, 3] (Host.dotGeneral dot_S512x1x256x4x64_S512x1x128x4x4x64_S512x1x4x256x128x4_4_5_2_24_013_013 none K Q) transposes_S512x1x4x256x128x4_S512x1x4x4x128x256_0_1_2_5_4_3

theorem prodW_at (K : FVec Ideal S512x1x256x4x64 .f32) (Q : FVec Ideal S512x1x128x4x4x64 .f32) (n : Fin 512) (g a : Fin 4) (r : Fin 128) (k : Fin 256) :
    prodW K Q (ix6 n 0 g a r k) = ∑ e : Fin 64, K (ix5 n 0 k g e) * Q (ix6 n 0 r g a e) := by
  pointwise [prodW]

/-- The masked scores. -/
def scoreW (M : IVec S512x1x4x4x128x256 1) (L B : FVec Ideal S512x1x4x4x128x256 .f32) : FVec Ideal S512x1x4x4x128x256 .f32 :=
  select M (addf L B) (broadcastInDim S512x1x4x4x128x256 ![] bcast_S_S512x1x4x4x128x256 (constant S_ .f32 0xFF800000#32))

theorem scoreW_at (M : IVec S512x1x4x4x128x256 1) (L B : FVec Ideal S512x1x4x4x128x256 .f32) (i : S512x1x4x4x128x256.Idx) :
    scoreW M L B i = if M i = 1#1 then L i + B i else Ideal.ofBits FTy.f32 0xFF800000#32 := rfl

/-- The greatest score of each query. -/
def maxW (S : FVec Ideal S512x1x4x4x128x256 .f32) : FVec Ideal S512x1x4x4x128 .f32 :=
  Host.reduce FloatOps.maximumf S (constant S_ .f32 0xFF800000#32) reducesTo_S512x1x4x4x128x256_S512x1x4x4x128_d5 h_S_

theorem maxW_at (S : FVec Ideal S512x1x4x4x128x256 .f32) (n : Fin 512) (g a : Fin 4) (r : Fin 128) :
    maxW S (ix5 n 0 g a r) = Finset.univ.fold max (Ideal.ofBits FTy.f32 0xFF800000#32) (fun k : Fin 256 => S (ix6 n 0 g a r k)) := by
  pointwise [maxW]
  exact fold_last S _ n g a r

/-- The same with an axis of one. -/
def maxK (X : FVec Ideal S512x1x4x4x128 .f32) : FVec Ideal S512x1x4x4x128x1 .f32 :=
  broadcastInDim S512x1x4x4x128x1 ![0, 1, 2, 3, 4] bcast_S512x1x4x4x128_S512x1x4x4x128x1_0_1_2_3_4 X

theorem maxK_at (X : FVec Ideal S512x1x4x4x128 .f32) (n : Fin 512) (g a : Fin 4) (r : Fin 128) :
    maxK X (ix6 n 0 g a r 0) = X (ix5 n 0 g a r) := by
  pointwise [maxK]

/-- The weights before division. -/
def wtW (M : IVec S512x1x4x4x128x256 1) (S : FVec Ideal S512x1x4x4x128x256 .f32) (X : FVec Ideal S512x1x4x4x128x1 .f32) : FVec Ideal S512x1x4x4x128x256 .f32 :=
  select M (Host.exp (subf S (broadcastInDim S512x1x4x4x128x256 ![0, 1, 2, 3, 4, 5] bcast_S512x1x4x4x128x1_S512x1x4x4x128x256_0_1_2_3_4_5 X)))
    (broadcastInDim S512x1x4x4x128x256 ![] bcast_S_S512x1x4x4x128x256 (constant S_ .f32 0x00000000#32))

theorem over_at (X : FVec Ideal S512x1x4x4x128x1 .f32) (n : Fin 512) (g a : Fin 4) (r : Fin 128) (k : Fin 256) :
    broadcastInDim S512x1x4x4x128x256 ![0, 1, 2, 3, 4, 5] bcast_S512x1x4x4x128x1_S512x1x4x4x128x256_0_1_2_3_4_5 X (ix6 n 0 g a r k)
      = X (ix6 n 0 g a r 0) := by
  pointwise

theorem wtW_at (M : IVec S512x1x4x4x128x256 1) (S : FVec Ideal S512x1x4x4x128x256 .f32) (X : FVec Ideal S512x1x4x4x128x1 .f32)
    (n : Fin 512) (g a : Fin 4) (r : Fin 128) (k : Fin 256) :
    wtW M S X (ix6 n 0 g a r k) = if M (ix6 n 0 g a r k) = 1#1 then Ideal.exp (S (ix6 n 0 g a r k) - X (ix6 n 0 g a r 0))
      else Ideal.ofBits FTy.f32 0x00000000#32 := by
  rw [← over_at X n g a r k]
  rfl

theorem zeroBits : Ideal.ofBits FTy.f32 0x00000000#32 = 0 := by
  simp [Ideal.ofBits, Ideal.ieee]

/-- The sums of the weights. -/
def denW (P : FVec Ideal S512x1x4x4x128x256 .f32) : FVec Ideal S512x1x4x4x128x1 .f32 :=
  broadcastInDim S512x1x4x4x128x1 ![0, 1, 2, 3, 4] bcast_S512x1x4x4x128_S512x1x4x4x128x1_0_1_2_3_4
    (Host.reduceAdd P (constant S_ .f32 0x00000000#32) reducesTo_S512x1x4x4x128x256_S512x1x4x4x128_d5 h_S_)

theorem denW_at (P : FVec Ideal S512x1x4x4x128x256 .f32) (n : Fin 512) (g a : Fin 4) (r : Fin 128) :
    denW P (ix6 n 0 g a r 0) = ∑ k : Fin 256, P (ix6 n 0 g a r k) := by
  pointwise [denW]
  exact sum_last P n g a r

/-- The weighted sums of the values. -/
def numW (V : FVec Ideal S512x1x256x4x64 .f32) (P : FVec Ideal S512x1x4x4x128x256 .f32) : FVec Ideal S512x1x128x4x4x64 .f32 :=
  transpose S512x1x128x4x4x64 [0, 1, 5, 2, 4, 3] (Host.dotGeneral dot_S512x1x256x4x64_S512x1x4x4x128x256_S512x1x4x64x4x128_2_5_4_34_013_012 none V P) transposes_S512x1x4x64x4x128_S512x1x128x4x4x64_0_1_5_2_4_3

theorem numW_at (V : FVec Ideal S512x1x256x4x64 .f32) (P : FVec Ideal S512x1x4x4x128x256 .f32) (n : Fin 512) (g a : Fin 4) (r : Fin 128) (e : Fin 64) :
    numW V P (ix6 n 0 r g a e) = ∑ k : Fin 256, V (ix5 n 0 k g e) * P (ix6 n 0 g a r k) := by
  pointwise [numW]

/-- The outputs by stretch. -/
def outW (N : FVec Ideal S512x1x128x4x4x64 .f32) (D : FVec Ideal S512x1x4x4x128x1 .f32) : FVec Ideal S512x1x128x4x4x64 .f32 :=
  Host.divf N (broadcastInDim S512x1x128x4x4x64 ![0, 1, 2, 3, 4, 5] bcast_S512x1x128x4x4x1_S512x1x128x4x4x64_0_1_2_3_4_5 (broadcastInDim S512x1x128x4x4x1 ![0, 1, 2, 3, 4] bcast_S512x1x128x4x4_S512x1x128x4x4x1_0_1_2_3_4 (transpose S512x1x128x4x4 [0, 1, 4, 2, 3] (shapeCast _ D shapeCasts_S512x1x4x4x128x1_S512x1x4x4x128) transposes_S512x1x4x4x128_S512x1x128x4x4_0_1_4_2_3)))

theorem outW_at (N : FVec Ideal S512x1x128x4x4x64 .f32) (D : FVec Ideal S512x1x4x4x128x1 .f32) (n : Fin 512) (g a : Fin 4) (r : Fin 128) (e : Fin 64) :
    outW N D (ix6 n 0 r g a e) = Ideal.div (N (ix6 n 0 r g a e)) (D (ix6 n 0 g a r 0)) := by
  pointwise [outW]

/-- The outputs laid out as the call's. -/
def backO (O : FVec Ideal S512x1x128x4x4x64 .f32) : FVec Ideal S32x16x16x128x64 .bf16 :=
  truncf .bf16 (transpose S32x16x16x128x64 [0, 2, 3, 1, 4] (shapeCast _ (shapeCast _ (transpose S32x128x16x4x4x64 [0, 2, 1, 3, 4, 5] (shapeCast _ (shapeCast _ O shapeCasts_S512x1x128x4x4x64_S512x128x4x4x64) shapeCasts_S512x128x4x4x64_S32x16x128x4x4x64) transposes_S32x16x128x4x4x64_S32x128x16x4x4x64_0_2_1_3_4_5) shapeCasts_S32x128x16x4x4x64_S32x2048x4x4x64) shapeCasts_S32x2048x4x4x64_S32x128x16x16x64) transposes_S32x128x16x16x64_S32x16x16x128x64_0_2_3_1_4) bitsLt_bf16_f32

theorem backO_at (O : FVec Ideal S512x1x128x4x4x64 .f32) (b : Fin 32) (d : Fin 16) (g a : Fin 4) (r : Fin 128) (e : Fin 64) :
    backO O (ix5 b d ⟨g.val * 4 + a.val, by omega⟩ r e) = O (ix6 ⟨b.val * 16 + d.val, by omega⟩ 0 r g a e) := by
  pointwise [backO]

/-- The logs laid out as the call's. -/
def backL (D X : FVec Ideal S512x1x4x4x128x1 .f32) : FVec Ideal S32x16x4x128x4 .f32 :=
  transpose S32x16x4x128x4 [0, 2, 3, 1, 4] (shapeCast _ (shapeCast _ (transpose S32x128x16x4x4 [0, 2, 1, 3, 4] (shapeCast _ (shapeCast _ (transpose S512x1x128x4x4 [0, 1, 4, 2, 3] (shapeCast _ (addf (Host.log D) X) shapeCasts_S512x1x4x4x128x1_S512x1x4x4x128) transposes_S512x1x4x4x128_S512x1x128x4x4_0_1_4_2_3) shapeCasts_S512x1x128x4x4_S512x128x4x4) shapeCasts_S512x128x4x4_S32x16x128x4x4) transposes_S32x16x128x4x4_S32x128x16x4x4_0_2_1_3_4) shapeCasts_S32x128x16x4x4_S32x2048x4x4) shapeCasts_S32x2048x4x4_S32x128x16x4x4) transposes_S32x128x16x4x4_S32x16x4x128x4_0_2_3_1_4

theorem backL_at (D X : FVec Ideal S512x1x4x4x128x1 .f32) (b : Fin 32) (d : Fin 16) (g a : Fin 4) (r : Fin 128) :
    backL D X (ix5 b d g r a) = Ideal.log (D (ix6 ⟨b.val * 16 + d.val, by omega⟩ 0 g a r 0)) + X (ix6 ⟨b.val * 16 + d.val, by omega⟩ 0 g a r 0) := by
  pointwise [backL]

end Cert.DilRefIdeal.Mine
-- ==== Proof.DilRef.lean ====
module

public import proofs.«01_k».proof.Proof.DilRefA
public import proofs.«01_k».proof.Proof.DilRefB
public import proofs.«01_k».proof.Proof.DilRefC

@[expose] public section

set_option maxRecDepth 16384

noncomputable section

/-! The dilated call's reference computes `dilOut` and `dilLog`. -/

namespace Cert.DilRefIdeal.Mine

open Cert.DilRefIdeal Cert.DilRefIdeal.Gen Idealize.ShloMosaic Idealize.ShloMosaic.TcCoe Idealize.SL.Sem Cert.Layer

variable (A : FVec Ideal S65536x3072 .bf16) (B : FVec Ideal S65536x1536 .bf16) (T : FVec Ideal S4x2x512x128 .f32)

/-- The masked scores of all stretches. -/
def sAll : FVec Ideal S512x1x4x4x128x256 .f32 := scoreW (overM maskW) (prodW (catW (padW (kR B))) (qW (qR A))) (overB (tabW T))

theorem sAll_lo (n : Fin 512) (g a : Fin 4) (r k : Fin 128) : sAll A B T (ix6 n 0 g a r ⟨k.val, by omega⟩) = ⊥ := by
  unfold sAll
  rw [scoreW_at, overM_at, maskW_lo, if_neg (by decide), negInf_eq]

theorem prod_hi (b : Fin 32) (d : Fin 16) (g a : Fin 4) (r k : Fin 128) :
    prodW (catW (padW (kR B))) (qW (qR A)) (ix6 (st b d) 0 g a r ⟨128 + k.val, by omega⟩) = plain A B b d g a r k := by
  rw [prodW_at]
  unfold plain dot
  refine Finset.sum_congr rfl fun e _ => ?_
  rw [catW_hi, padW_hi, kR_at, qW_at, qR_at]
  exact mul_comm _ _

theorem sAll_hi (b : Fin 32) (d : Fin 16) (g a : Fin 4) (r k : Fin 128) :
    sAll A B T (ix6 (st b d) 0 g a r ⟨128 + k.val, by omega⟩) = dscore A B T b d g a r k := by
  unfold sAll dscore
  rw [scoreW_at, overM_at, maskW_hi, negInf_eq, prod_hi, overB_at, tabW_hi]
  exact if_pos rfl

/-- The greatest scores. -/
def xAll : FVec Ideal S512x1x4x4x128x1 .f32 := maxK (maxW (sAll A B T))

theorem xAll_at (b : Fin 32) (d : Fin 16) (g a : Fin 4) (r : Fin 128) :
    xAll A B T (ix6 (st b d) 0 g a r 0) = topOf (dscore A B T b d g a r) := by
  unfold xAll
  rw [maxK_at, maxW_at, negInf_eq]
  exact topOf_padded _ _ (fun k => sAll_lo A B T _ g a r k) (fun k => sAll_hi A B T b d g a r k)

/-- The weights. -/
def pAll : FVec Ideal S512x1x4x4x128x256 .f32 := wtW (overM maskW) (sAll A B T) (xAll A B T)

theorem pAll_lo (n : Fin 512) (g a : Fin 4) (r k : Fin 128) : pAll A B T (ix6 n 0 g a r ⟨k.val, by omega⟩) = 0 := by
  unfold pAll
  rw [wtW_at, overM_at, maskW_lo, if_neg (by decide), zeroBits]

theorem pAll_hi (b : Fin 32) (d : Fin 16) (g a : Fin 4) (r k : Fin 128) :
    pAll A B T (ix6 (st b d) 0 g a r ⟨128 + k.val, by omega⟩) = wt (dscore A B T b d g a r) k := by
  unfold pAll wt
  rw [wtW_at, overM_at, maskW_hi, zeroBits, xAll_at, sAll_hi]
  exact if_pos rfl

theorem den_at (b : Fin 32) (d : Fin 16) (g a : Fin 4) (r : Fin 128) :
    denW (pAll A B T) (ix6 (st b d) 0 g a r 0) = den (dscore A B T b d g a r) := by
  rw [denW_at]
  exact sum_padded _ _ (fun k => pAll_lo A B T _ g a r k) (fun k => pAll_hi A B T b d g a r k)

theorem num_at (b : Fin 32) (d : Fin 16) (g a : Fin 4) (r : Fin 128) (e : Fin 64) :
    numW (catW (padW (vR B))) (pAll A B T) (ix6 (st b d) 0 r g a e) = dot (wt (dscore A B T b d g a r)) (dvalue B b d g e) := by
  rw [numW_at]
  unfold dot
  refine sum_padded _ _ (fun k => ?_) (fun k => ?_)
  · rw [pAll_lo, mul_zero]
  · rw [pAll_hi, catW_hi, padW_hi, vR_at]
    exact mul_comm _ _

/-- The reference's outputs, of its layers. -/
theorem outs_at (b : Fin 32) (d : Fin 16) (g a : Fin 4) (r : Fin 128) (e : Fin 64) :
    backO (outW (numW (catW (padW (vR B))) (pAll A B T)) (denW (pAll A B T))) (ix5 b d ⟨g.val * 4 + a.val, by omega⟩ r e)
      = attnOut (dscore A B T b d g a r) (dvalue B b d g e) := by
  rw [backO_at, outW_at]
  exact congrArg₂ Ideal.div (num_at A B T b d g a r e) (den_at A B T b d g a r)

/-- The reference's logs, of its layers. -/
theorem logs_at (b : Fin 32) (d : Fin 16) (g a : Fin 4) (r : Fin 128) :
    backL (denW (pAll A B T)) (xAll A B T) (ix5 b d g r a) = attnLog (dscore A B T b d g a r) := by
  rw [backL_at]
  exact congrArg₂ (fun x y => Ideal.log x + y) (den_at A B T b d g a r) (xAll_at A B T b d g a r)

theorem outs_eq : backO (outW (numW (catW (padW (vR B))) (pAll A B T)) (denW (pAll A B T))) = dilOut A B T := by
  funext i
  obtain ⟨b, d, h, r, e, rfl⟩ : ∃ (b : Fin 32) (d : Fin 16) (h : Fin 16) (r : Fin 128) (e : Fin 64), i = (ix5 b d h r e : S32x16x16x128x64.Idx) :=
    ⟨i 0, i 1, i 2, i 3, i 4, (ix5_eta (i : S32x16x16x128x64.Idx)).symm⟩
  have hh : h = ⟨(⟨h.val / 4, by omega⟩ : Fin 4).val * 4 + (⟨h.val % 4, by omega⟩ : Fin 4).val, by simp only; omega⟩ :=
    Fin.ext (by simp only; omega)
  refine Eq.trans ?_ (dilOut_at A B T b d ⟨h.val / 4, by omega⟩ ⟨h.val % 4, by omega⟩ r e h (by simp only; omega)).symm
  refine Eq.trans ?_ (outs_at A B T b d ⟨h.val / 4, by omega⟩ ⟨h.val % 4, by omega⟩ r e)
  exact congrArg (fun h => backO (outW (numW (catW (padW (vR B))) (pAll A B T)) (denW (pAll A B T))) (ix5 b d h r e)) hh

theorem logs_eq : backL (denW (pAll A B T)) (xAll A B T) = dilLog A B T := by
  funext i
  obtain ⟨b, d, g, r, a, rfl⟩ : ∃ (b : Fin 32) (d : Fin 16) (g : Fin 4) (r : Fin 128) (a : Fin 4), i = (ix5 b d g r a : S32x16x4x128x4.Idx) :=
    ⟨i 0, i 1, i 2, i 3, i 4, (ix5_eta (i : S32x16x4x128x4.Idx)).symm⟩
  exact logs_at A B T b d g a r

variable (m : (ℓ : Loc nD τ sig) → Buf (Elt Ideal) ℓ)

set_option maxHeartbeats 4000000 in
theorem out0_eq (c : Dev nD) : Value.res_out0 m c
    = dilOut (m ((c.tc : Thread nD τ).loc main_arg0)) (m ((c.tc : Thread nD τ).loc main_arg1)) (m ((c.tc : Thread nD τ).loc main_arg2)) := by
  refine Eq.trans ?_ (outs_eq _ _ _)
  unfold Value.res_out0 Value.res_main_v90
  unfold backO outW numW denW pAll xAll sAll wtW maxK maxW scoreW prodW overM overB catW padW kR vR qW qR tabW maskW
  rfl

set_option maxHeartbeats 4000000 in
theorem out1_eq (c : Dev nD) : Value.res_out1 m c
    = dilLog (m ((c.tc : Thread nD τ).loc main_arg0)) (m ((c.tc : Thread nD τ).loc main_arg1)) (m ((c.tc : Thread nD τ).loc main_arg2)) := by
  refine Eq.trans ?_ (logs_eq _ _ _)
  unfold Value.res_out1 Value.res_main_v92
  unfold backL denW pAll xAll sAll wtW maxK maxW scoreW prodW overM overB catW padW kR qW qR tabW maskW
  rfl

/-- The reference runs to its end and leaves the two arrays. -/
theorem run (ρ : Dev nD → PrngReg) :
    θ_run defs (onTc (τ := τ) (main (F := Ideal))) ⟨m, fun _ => 0, ρ⟩ fun r => ∀ c : Dev nD,
      r.2.mem ((c.tc : Thread nD τ).loc main_v90) = dilOut (m ((c.tc : Thread nD τ).loc main_arg0)) (m ((c.tc : Thread nD τ).loc main_arg1)) (m ((c.tc : Thread nD τ).loc main_arg2))
      ∧ r.2.mem ((c.tc : Thread nD τ).loc main_v92) = dilLog (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out0_eq m c), (h c).2.1.trans (out1_eq m c), (h c).2.2⟩) (Value.run m ρ)

end Cert.DilRefIdeal.Mine
-- ==== Proof.DilEq.lean ====
module

public import proofs.«01_k».proof.Defs
public import proofs.«01_k».proof.Proof.DilArray
public import proofs.«01_k».proof.Proof.DilRef

@[expose] public section

set_option maxRecDepth 16384

noncomputable section

/-! The dilated attention call at stride 16 computes what its reference does. -/

namespace Cert.DilIdeal.Mine

open Idealize.ShloMosaic Idealize.ShloMosaic.TcCoe Idealize.SL.Sem

set_option maxHeartbeats 4000000 in
/-- Kernel and reference end with equal outputs and logs. -/
theorem equal : algebraic_DilIdeal_DilRefIdeal (hDilIdeal := Cert.DilIdeal.Gen.facts)
    (hDilRefIdeal := Cert.DilRefIdeal.Gen.facts) := by
  pair_intro
  · run_from Cert.DilIdeal.Mine.frame m g & Cert.DilIdeal.Mine.run_main m g
  · run_from Cert.DilRefIdeal.Mine.run m' g'
    · exact (final4 m c).symm
    · exact (final5 m c).symm

end Cert.DilIdeal.Mine
-- ==== Proof.PostBlock.lean ====
module

public import proofs.«01_k».proof.Proof.Gen.PostIdeal.Frame
public import proofs.«01_k».proof.Proof.Ffn

@[expose] public section

set_option maxRecDepth 16384

noncomputable section

/-! What one grid point of the first layer's output and feed-forward call stores: its block of rows. -/

namespace Cert.PostIdeal.Mine

open Cert.PostIdeal Cert.PostIdeal.Gen Idealize.ShloMosaic Idealize.ShloMosaic.TcCoe Idealize.SL.Sem Cert.Layer

/-- The rows with the attention's output projected and added. -/
theorem pay2_at (a : Vec Ideal S512x1024 .bf16) (x : Vec Ideal S512x1024 .f32) (w : Vec Ideal S1024x1024 .bf16)
    (r : Fin 512) (q : Fin 1024) :
    k0_pay2 a x w (ix2 r q) = mixed (fun k => x (ix2 r k)) (fun k => a (ix2 r k)) (fun k q => w (ix2 k q)) q := by
  pointwise [k0_pay2, mixed, dot]

/-- Those rows normed. -/
theorem pay3_at (a : Vec Ideal S512x1024 .bf16) (x : Vec Ideal S512x1024 .f32) (w : Vec Ideal S1024x1024 .bf16)
    (g : Vec Ideal S1x1024 .f32) (r : Fin 512) (q : Fin 1024) :
    k0_pay3 a x w g (ix2 r q) = normed (fun k => k0_pay2 a x w (ix2 r k)) (fun k => g (ix2 0 k)) q := by
  pointwise [k0_pay3, normed, rootMs]

section Chunks

variable (h : FVec Ideal S512x1024 .bf16) (u v : Vec Ideal S1024x256 .bf16) (r : Fin 512) (q : Fin 256)

/-- The first chunk of hidden units. -/
theorem pay4_at (a : Vec Ideal S512x1024 .bf16) (x : Vec Ideal S512x1024 .f32) (w : Vec Ideal S1024x1024 .bf16)
    (g : Vec Ideal S1x1024 .f32) : k0_pay4 a x w g u v (ix2 r q)
      = glu (dot (fun k => k0_pay3 a x w g (ix2 r k)) fun k => u (ix2 k q)) (dot (fun k => k0_pay3 a x w g (ix2 r k)) fun k => v (ix2 k q)) := by
  pointwise [k0_pay4, glu, dot]
/-- The second chunk. -/
theorem pay7_at (a : Vec Ideal S512x1024 .bf16) (x : Vec Ideal S512x1024 .f32) (w : Vec Ideal S1024x1024 .bf16)
    (g : Vec Ideal S1x1024 .f32) : k0_pay7 (k0_pay3 a x w g) (k0_pay5 a x w g u) (k0_pay6 v) (ix2 r q)
      = glu (dot (fun k => k0_pay3 a x w g (ix2 r k)) fun k => u (ix2 k q)) (dot (fun k => k0_pay3 a x w g (ix2 r k)) fun k => v (ix2 k q)) := by
  pointwise [k0_pay7, k0_pay5, k0_pay6, glu, dot]
/-- The third chunk. -/
theorem pay8_at : k0_pay8 h u v (ix2 r q)
    = glu (dot (fun k => h (ix2 r k)) fun k => u (ix2 k q)) (dot (fun k => h (ix2 r k)) fun k => v (ix2 k q)) := by
  pointwise [k0_pay8, glu, dot]
/-- The fourth chunk. -/
theorem pay9_at : k0_pay9 h u v (ix2 r q)
    = glu (dot (fun k => h (ix2 r k)) fun k => u (ix2 k q)) (dot (fun k => h (ix2 r k)) fun k => v (ix2 k q)) := by
  pointwise [k0_pay9, glu, dot]
/-- The fifth chunk. -/
theorem pay10_at : k0_pay10 h u v (ix2 r q)
    = glu (dot (fun k => h (ix2 r k)) fun k => u (ix2 k q)) (dot (fun k => h (ix2 r k)) fun k => v (ix2 k q)) := by
  pointwise [k0_pay10, glu, dot]
/-- The sixth chunk. -/
theorem pay12_at : k0_pay12 h (k0_pay11 h u) v (ix2 r q)
    = glu (dot (fun k => h (ix2 r k)) fun k => u (ix2 k q)) (dot (fun k => h (ix2 r k)) fun k => v (ix2 k q)) := by
  pointwise [k0_pay12, k0_pay11, glu, dot]
/-- The seventh chunk. -/
theorem pay13_at : k0_pay13 h u v (ix2 r q)
    = glu (dot (fun k => h (ix2 r k)) fun k => u (ix2 k q)) (dot (fun k => h (ix2 r k)) fun k => v (ix2 k q)) := by
  pointwise [k0_pay13, glu, dot]
/-- The eighth chunk. -/
theorem pay14_at : k0_pay14 h u v (ix2 r q)
    = glu (dot (fun k => h (ix2 r k)) fun k => u (ix2 k q)) (dot (fun k => h (ix2 r k)) fun k => v (ix2 k q)) := by
  pointwise [k0_pay14, glu, dot]
/-- The ninth chunk. -/
theorem pay15_at : k0_pay15 h u v (ix2 r q)
    = glu (dot (fun k => h (ix2 r k)) fun k => u (ix2 k q)) (dot (fun k => h (ix2 r k)) fun k => v (ix2 k q)) := by
  pointwise [k0_pay15, glu, dot]

/-- A chunk of hidden units computed apart, as the last two are. -/
def chunk (h : FVec Ideal S512x1024 .bf16) (u v : FVec Ideal S1024x256 .bf16) : FVec Ideal S512x256 .bf16 :=
  truncf .bf16 (mulf (mulf (matmul dot_S512x1024_S1024x256_S512x256_1_0_0_1_n_n none h (shapeCast S1024x256 u shapeCasts_S1024x256_S1024x256) (constant S512x256 .f32 0x00000000#32))
    (logistic (matmul dot_S512x1024_S1024x256_S512x256_1_0_0_1_n_n none h (shapeCast S1024x256 u shapeCasts_S1024x256_S1024x256) (constant S512x256 .f32 0x00000000#32))))
    (matmul dot_S512x1024_S1024x256_S512x256_1_0_0_1_n_n none h (shapeCast S1024x256 v shapeCasts_S1024x256_S1024x256) (constant S512x256 .f32 0x00000000#32))) bitsLt_bf16_f32

/-- That chunk's entries. -/
theorem chunk_at : chunk h u v (ix2 r q)
    = glu (dot (fun k => h (ix2 r k)) fun k => u (ix2 k q)) (dot (fun k => h (ix2 r k)) fun k => v (ix2 k q)) := by
  pointwise [chunk, glu, dot]

end Chunks

/-- Rows plus hidden units times the second matrix. -/
theorem down_at (y : FVec Ideal S512x1024 .f32) (z : FVec Ideal S512x2816 .bf16) (d : FVec Ideal S2816x1024 .bf16)
    (r : Fin 512) (q : Fin 1024) :
    addf y (matmul dot_S512x2816_S2816x1024_S512x1024_1_0_0_1_n_n none z (shapeCast S2816x1024 d shapeCasts_S2816x1024_S2816x1024)
      (constant S512x1024 .f32 0x00000000#32)) (ix2 r q)
      = y (ix2 r q) + dot (fun k => z (ix2 r k)) fun k => d (ix2 k q) := by
  pointwise [dot]

/-- The stored rows, from the chunks of hidden units. -/
theorem pay1_at (y : FVec Ideal S512x1024 .f32) (h : FVec Ideal S512x1024 .bf16) (p0 p1 p2 p3 p4 p5 p6 p7 p8 : FVec Ideal S512x256 .bf16)
    (u9 v9 u10 v10 : Vec Ideal S1024x256 .bf16) (d : Vec Ideal S2816x1024 .bf16) (r : Fin 512) (q : Fin 1024) (f : Fin 2816 → EReal)
    (h0 : ∀ q : Fin 256, p0 (ix2 r q) = f ⟨0 + q.val, by omega⟩)
    (h1 : ∀ q : Fin 256, p1 (ix2 r q) = f ⟨256 + q.val, by omega⟩)
    (h2 : ∀ q : Fin 256, p2 (ix2 r q) = f ⟨512 + q.val, by omega⟩)
    (h3 : ∀ q : Fin 256, p3 (ix2 r q) = f ⟨768 + q.val, by omega⟩)
    (h4 : ∀ q : Fin 256, p4 (ix2 r q) = f ⟨1024 + q.val, by omega⟩)
    (h5 : ∀ q : Fin 256, p5 (ix2 r q) = f ⟨1280 + q.val, by omega⟩)
    (h6 : ∀ q : Fin 256, p6 (ix2 r q) = f ⟨1536 + q.val, by omega⟩)
    (h7 : ∀ q : Fin 256, p7 (ix2 r q) = f ⟨1792 + q.val, by omega⟩)
    (h8 : ∀ q : Fin 256, p8 (ix2 r q) = f ⟨2048 + q.val, by omega⟩)
    (h9 : ∀ q : Fin 256, chunk h u9 v9 (ix2 r q) = f ⟨2304 + q.val, by omega⟩)
    (h10 : ∀ q : Fin 256, chunk h u10 v10 (ix2 r q) = f ⟨2560 + q.val, by omega⟩) :
    k0_pay1 y h p0 p1 p2 p3 p4 p5 p6 p7 p8 u9 v9 u10 v10 d (ix2 r q) = y (ix2 r q) + dot f fun k => d (ix2 k q) := by
  refine (down_at y (concatenate S512x2816 1 [⟨S512x256, p0⟩, ⟨S512x256, p1⟩, ⟨S512x256, p2⟩, ⟨S512x256, p3⟩, ⟨S512x256, p4⟩,
    ⟨S512x256, p5⟩, ⟨S512x256, p6⟩, ⟨S512x256, p7⟩, ⟨S512x256, p8⟩, ⟨S512x256, chunk h u9 v9⟩, ⟨S512x256, chunk h u10 v10⟩]
    concatenates_S512x256_S512x256_S512x256_S512x256_S512x256_S512x256_S512x256_S512x256_S512x256_S512x256_S512x256_S512x2816_d1)
    d r q).trans ?_
  exact congrArg (y (ix2 r q) + ·) (congrArg₂ dot (funext fun k => cat11 _ _ _ _ _ _ _ _ _ _ _ _ f r h0 h1 h2 h3 h4 h5 h6 h7 h8 h9 h10 k) rfl)

/-- The block: each row with its attention's output projected and added, then fed forward. -/
theorem block6 (x0 : Vec Ideal S512x1024 .f32) (x1 : Vec Ideal S512x1024 .bf16) (x2 : Vec Ideal S1024x1024 .bf16)
    (x3 : Vec Ideal S1x1024 .f32) (x4 : Vec Ideal S1024x5632 .bf16) (x5 : Vec Ideal S2816x1024 .bf16) (y : S512x1024.Idx) :
    out0_6 x0 x1 x2 x3 x4 x5 y
      = fed (mixed (fun k => x0 (ix2 (y 0) k)) (fun k => x1 (ix2 (y 0) k)) (fun k q => x2 (ix2 k q)))
          (fun k => x3 (ix2 0 k)) (fun k q => x4 (ix2 k q)) (fun k q => x5 (ix2 k q)) (y 1) := by
  unfold_out out0_6
  canon_tiles x h
  have e0 : View.ld x0 r0_0 = x0 := View.ld_unit_lit _ _ (by decide)
  have e1 : View.ld x1 r0_0 = x1 := View.ld_unit_lit _ _ (by decide)
  have e2 : View.ld x2 r0_1 = x2 := View.ld_unit_lit _ _ (by decide)
  have e3 : View.ld x3 r0_2 = x3 := View.ld_unit_lit _ _ (by decide)
  have e5 : View.ld x5 r0_25 = x5 := View.ld_unit_lit _ _ (by decide)
  rw [e0, e1, e2, e3, e5]
  obtain rfl : y = x := funext fun a => by
    fin_cases a
    · exact Fin.ext h0
    · exact Fin.ext h1
  clear h0 h1 x0_lt x1_lt e0 e1 e2 e3 e5
  have hy : (fun k => k0_pay2 x1 x0 x2 (ix2 (y 0) k))
      = mixed (fun k => x0 (ix2 (y 0) k)) (fun k => x1 (ix2 (y 0) k)) (fun k q => x2 (ix2 k q)) :=
    funext fun k => pay2_at _ _ _ _ _
  have hn : (fun k => k0_pay3 x1 x0 x2 x3 (ix2 (y 0) k))
      = normed (mixed (fun k => x0 (ix2 (y 0) k)) (fun k => x1 (ix2 (y 0) k)) (fun k q => x2 (ix2 k q))) (fun k => x3 (ix2 0 k)) :=
    (funext fun k => pay3_at _ _ _ _ _ _).trans (congrArg (normed · _) hy)
  unfold fed
  rw [← hn]
  have e : y = ix2 (y 0) (y 1) := by funext a; fin_cases a <;> rfl
  refine (congrArg _ e).trans ((pay1_at _ _ _ _ _ _ _ _ _ _ _ _ _ _ _ _ (y 0) (y 1) _ ?_ ?_ ?_ ?_ ?_ ?_ ?_ ?_ ?_ ?_ ?_).trans
    (congrArg (· + _) (congrFun hy (y 1))))
  all_goals intro q
  · refine (pay4_at _ _ _ _ _ _ _ _).trans (congrArg₂ glu (congrArg₂ dot rfl (funext fun k => ?_)) (congrArg₂ dot rfl (funext fun k => ?_))) <;> exact upChunk _ _ _ _ _ _ (by dsimp only <;> omega)
  · refine (pay7_at _ _ _ _ _ _ _ _).trans (congrArg₂ glu (congrArg₂ dot rfl (funext fun k => ?_)) (congrArg₂ dot rfl (funext fun k => ?_))) <;> exact upChunk _ _ _ _ _ _ (by dsimp only <;> omega)
  · refine (pay8_at _ _ _ _ _).trans (congrArg₂ glu (congrArg₂ dot rfl (funext fun k => ?_)) (congrArg₂ dot rfl (funext fun k => ?_))) <;> exact upChunk _ _ _ _ _ _ (by dsimp only <;> omega)
  · refine (pay9_at _ _ _ _ _).trans (congrArg₂ glu (congrArg₂ dot rfl (funext fun k => ?_)) (congrArg₂ dot rfl (funext fun k => ?_))) <;> exact upChunk _ _ _ _ _ _ (by dsimp only <;> omega)
  · refine (pay10_at _ _ _ _ _).trans (congrArg₂ glu (congrArg₂ dot rfl (funext fun k => ?_)) (congrArg₂ dot rfl (funext fun k => ?_))) <;> exact upChunk _ _ _ _ _ _ (by dsimp only <;> omega)
  · refine (pay12_at _ _ _ _ _).trans (congrArg₂ glu (congrArg₂ dot rfl (funext fun k => ?_)) (congrArg₂ dot rfl (funext fun k => ?_))) <;> exact upChunk _ _ _ _ _ _ (by dsimp only <;> omega)
  · refine (pay13_at _ _ _ _ _).trans (congrArg₂ glu (congrArg₂ dot rfl (funext fun k => ?_)) (congrArg₂ dot rfl (funext fun k => ?_))) <;> exact upChunk _ _ _ _ _ _ (by dsimp only <;> omega)
  · refine (pay14_at _ _ _ _ _).trans (congrArg₂ glu (congrArg₂ dot rfl (funext fun k => ?_)) (congrArg₂ dot rfl (funext fun k => ?_))) <;> exact upChunk _ _ _ _ _ _ (by dsimp only <;> omega)
  · refine (pay15_at _ _ _ _ _).trans (congrArg₂ glu (congrArg₂ dot rfl (funext fun k => ?_)) (congrArg₂ dot rfl (funext fun k => ?_))) <;> exact upChunk _ _ _ _ _ _ (by dsimp only <;> omega)
  · refine (chunk_at _ _ _ _ _).trans (congrArg₂ glu (congrArg₂ dot rfl (funext fun k => ?_)) (congrArg₂ dot rfl (funext fun k => ?_))) <;> exact upChunk _ _ _ _ _ _ (by dsimp only <;> omega)
  · refine (chunk_at _ _ _ _ _).trans (congrArg₂ glu (congrArg₂ dot rfl (funext fun k => ?_)) (congrArg₂ dot rfl (funext fun k => ?_))) <;> exact upChunk _ _ _ _ _ _ (by dsimp only <;> omega)

end Cert.PostIdeal.Mine
-- ==== Proof.PostArray.lean ====
module

public import proofs.«01_k».proof.Proof.PostBlock

@[expose] public section

set_option maxRecDepth 16384

noncomputable section

/-! What the result array of the first layer's output and feed-forward call holds after the run. -/

namespace Cert.PostIdeal.Mine

open Cert.PostIdeal Cert.PostIdeal.Gen Idealize.ShloMosaic Idealize.ShloMosaic.TcCoe Idealize.SL.Sem Cert.Layer
open Idealize.ShloMosaic.Pipeline (Dat)

variable (m : (ℓ : Loc nD τ sig) → Buf (Elt Ideal) ℓ)

/-- The block index of every window at every grid point. -/
theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The layer's output: each row with its attention's output projected and added, then fed forward. -/
def rowsOut (X : FVec Ideal S65536x1024 .f32) (A : FVec Ideal S65536x1024 .bf16) (O : FVec Ideal S1x1024x1024 .f32)
    (G : FVec Ideal S2x1024 .f32) (W : FVec Ideal S2x1024x5632 .f32) (D : FVec Ideal S2x2816x1024 .f32) :
    FVec Ideal S65536x1024 .f32 :=
  fun i => fed (mixed (fun k => X (ix2 (i 0) k)) (fun k => A (ix2 (i 0) k)) (fun k q => O (ix3 0 k q)))
    (fun k => G (ix2 0 k)) (fun k q => W (ix3 0 k q)) (fun k q => D (ix3 0 k q)) (i 1)

/-- The block of rows at a grid point, read off the argument. -/
theorem rows (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  blk_ext [iblk, V, idx_val t]

/-- The block of the attention's rows at a grid point, read off the argument. -/
theorem attn (c : Dev nD) (t : Fin cfg0.N) (r : Fin 512) (k : Fin 1024) (R : Fin 65536) (hR : R.val = t.val * 512 + r.val) :
    iblk m c 1 t (ix2 r k) = m ((c : Thread nD τ).loc main_arg1) (ix2 R k) := by
  blk_ext [iblk, V, idx_val t]

/-- The output projection's matrix. -/
theorem outMatrix (c : Dev nD) (t : Fin cfg0.N) (k q : Fin 1024) :
    iblk m c 2 t (ix2 k q) = m ((c : Thread nD τ).loc main_arg2) (ix3 0 k q) := by
  have e : iblk m c 2 t (ix2 k q) = V m c main_v1 (ix2 k q) := by blk_ext [iblk, idx_val t]
  rw [e]
  entry_read
  pointwise

/-- The gain is the first row of the gains. -/
theorem gain (c : Dev nD) (t : Fin cfg0.N) (k : Fin 1024) :
    iblk m c 3 t (ix2 0 k) = m ((c : Thread nD τ).loc main_arg3) (ix2 0 k) := by
  have e : iblk m c 3 t (ix2 0 k) = V m c main_v2 (ix2 0 k) := by blk_ext [iblk, idx_val t]
  rw [e]
  entry_read
  pointwise

/-- The up projection's matrix is the first one. -/
theorem upMatrix (c : Dev nD) (t : Fin cfg0.N) (k : Fin 1024) (q : Fin 5632) :
    iblk m c 4 t (ix2 k q) = m ((c : Thread nD τ).loc main_arg4) (ix3 0 k q) := by
  have e : iblk m c 4 t (ix2 k q) = V m c main_v5 (ix2 k q) := by blk_ext [iblk, idx_val t]
  rw [e]
  entry_read
  pointwise

/-- The down projection's matrix is the first one. -/
theorem downMatrix (c : Dev nD) (t : Fin cfg0.N) (k : Fin 2816) (q : Fin 1024) :
    iblk m c 5 t (ix2 k q) = m ((c : Thread nD τ).loc main_arg5) (ix3 0 k q) := by
  have e : iblk m c 5 t (ix2 k q) = V m c main_v8 (ix2 k q) := by blk_ext [iblk, idx_val t]
  rw [e]
  entry_read
  pointwise

/-- What a grid point stores is its part of `rowsOut`. -/
theorem point6 (c : Dev nD) (t : Fin cfg0.N) (y) :
    out0_6 (iblk m c 0 t) (iblk m c 1 t) (iblk m c 2 t) (iblk m c 3 t) (iblk m c 4 t) (iblk m c 5 t) y
      = rowsOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  refine (block6 _ _ _ _ _ _ _).trans ?_
  unfold rowsOut
  have hq : y 1 = (((cfg0.win 6).blk t).view.emb y) 1 := Fin.ext (by blk_simp [idx_val t])
  refine (congrArg _ hq).trans (congrFun ?_ _)
  have hr : ((((cfg0.win 6).blk t).view.emb y) 0 : Fin 65536).val = t.val * 512 + (y 0).val := by blk_simp [idx_val t]
  rw [funext fun k => rows m c t (y 0) k _ hr, funext fun k => attn m c t (y 0) k _ hr,
    funext fun k => funext fun q => outMatrix m c t k q, funext fun k => gain m c t k,
    funext fun k => funext fun q => upMatrix m c t k q, funext fun k => funext fun q => downMatrix m c t k q]

/-- After the run the result array is `rowsOut` of the arguments. -/
theorem final6 (c : Dev nD) : (dats m 0 c).arrAt 6 (cfgs 0).N
    = rowsOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point6 m c t y

end Cert.PostIdeal.Mine
-- ==== Proof.RefNorm.lean ====
module

public import proofs.«01_k».proof.Proof.Spec

@[expose] public section

set_option maxRecDepth 16384

noncomputable section

/-! The norm of a row as the references' host operations compute it. -/

namespace Cert.Layer

open Idealize.ShloMosaic Idealize.ShloMosaic.TcCoe

/-- The shape of all rows. -/
abbrev Rows : Shape := ⟨2, ![65536, 1024]⟩
/-- The shape of one number a row. -/
abbrev Col : Shape := ⟨2, ![65536, 1]⟩
/-- The shape of one number a row, as a vector. -/
abbrev Vect : Shape := ⟨1, ![65536]⟩
/-- The shape of a gain. -/
abbrev Gain : Shape := ⟨1, ![1024]⟩
/-- The shape of a gain, as a row. -/
abbrev GainRow : Shape := ⟨2, ![1, 1024]⟩
/-- The shape of one number. -/
abbrev One : Shape := ⟨0, ![]⟩

/-- The host's reciprocal root of the mean square is `rootMs` of the row. -/
theorem ref_rootMs (X : FVec Ideal Rows .f32) (h1 : Vect.BroadcastsInDim Col (![0] : Fin 1 → Fin Col.rank))
    (h2 : Rows.ReducesTo [1] Vect) (h3 : 0 < One.numel) (h4 h5 : One.BroadcastsInDim Col (![] : Fin 0 → Fin Col.rank))
    (r : Fin 65536) (q : Fin 1) :
    (Host.rsqrt (addf (Host.divf (broadcastInDim Col ![0] h1 (Host.reduceAdd (mulf X X) (constant One .f32 0x00000000#32) h2 h3))
        (broadcastInDim Col ![] h4 (constant One .f32 0x44800000#32)))
        (broadcastInDim Col ![] h5 (constant (F := Ideal) One .f32 0x358637BD#32)))) (ix2 r q)
      = rootMs (fun k => X (ix2 r k)) := by
  pointwise [rootMs]

/-- A row times its factor times the gain. -/
theorem ref_scale (X : FVec Ideal Rows .f32) (R : FVec Ideal Col .f32) (g : FVec Ideal Gain .f32)
    (h1 : Col.BroadcastsInDim Rows (![0, 1] : Fin 2 → Fin Rows.rank))
    (h2 : GainRow.BroadcastsInDim Rows (![0, 1] : Fin 2 → Fin Rows.rank))
    (h3 : Gain.BroadcastsInDim GainRow (![1] : Fin 1 → Fin GainRow.rank)) (r : Fin 65536) (q : Fin 1024) :
    mulf (mulf X (broadcastInDim Rows ![0, 1] h1 R)) (broadcastInDim Rows ![0, 1] h2 (broadcastInDim GainRow ![1] h3 g)) (ix2 r q)
      = X (ix2 r q) * R (ix2 r 0) * g (ix1 q) := by
  pointwise

/-- The host's normed row. -/
theorem ref_normed (X : FVec Ideal Rows .f32) (g : FVec Ideal Gain .f32)
    {h1 : Vect.BroadcastsInDim Col (![0] : Fin 1 → Fin Col.rank)}
    {h2 : Rows.ReducesTo [1] Vect} {h3 : 0 < One.numel} {h4 h5 : One.BroadcastsInDim Col (![] : Fin 0 → Fin Col.rank)}
    {h6 : Col.BroadcastsInDim Rows (![0, 1] : Fin 2 → Fin Rows.rank)}
    {h7 : GainRow.BroadcastsInDim Rows (![0, 1] : Fin 2 → Fin Rows.rank)}
    {h8 : Gain.BroadcastsInDim GainRow (![1] : Fin 1 → Fin GainRow.rank)} (r : Fin 65536) (q : Fin 1024) :
    mulf (mulf X (broadcastInDim Rows ![0, 1] h6 (Host.rsqrt (addf (Host.divf (broadcastInDim Col ![0] h1
          (Host.reduceAdd (mulf X X) (constant One .f32 0x00000000#32) h2 h3))
        (broadcastInDim Col ![] h4 (constant One .f32 0x44800000#32)))
        (broadcastInDim Col ![] h5 (constant (F := Ideal) One .f32 0x358637BD#32))))))
        (broadcastInDim Rows ![0, 1] h7 (broadcastInDim GainRow ![1] h8 g)) (ix2 r q)
      = normed (fun k => X (ix2 r k)) (fun k => g (ix1 k)) q := by
  rw [ref_scale, ref_rootMs]
  rfl

end Cert.Layer
-- ==== Proof.PostRef.lean ====
module

public import proofs.«01_k».proof.Proof.Gen.PostRefIdeal.Run
public import proofs.«01_k».proof.Proof.PostArray
public import proofs.«01_k».proof.Proof.RefNorm

@[expose] public section

set_option maxRecDepth 16384

noncomputable section

/-! What the reference of the first layer's output projection and feed-forward part computes. -/

namespace Cert.PostRefIdeal.Mine

open Cert.PostRefIdeal Cert.PostRefIdeal.Gen Idealize.ShloMosaic Idealize.ShloMosaic.TcCoe Idealize.SL.Sem Cert.Layer
open Cert.PostIdeal.Mine (rowsOut)

variable (m : (ℓ : Loc nD τ sig) → Buf (Elt Ideal) ℓ) (ρ : Dev nD → PrngReg)

/-- The output projection, added to the rows. -/
theorem mixed_at (X : FVec Ideal S65536x1024 .f32) (A : FVec Ideal S65536x1024 .bf16) (O : FVec Ideal S1x1024x1024 .f32)
    (r : Fin 65536) (q : Fin 1024) :
    addf X (Host.dotGeneral dot_S65536x1024_S1024x1024_S65536x1024_1_0_0_1_n_n none (extf .f32 A bitsLt_bf16_f32)
        (shapeCast _ O shapeCasts_S1x1024x1024_S1024x1024)) (ix2 r q)
      = mixed (fun k => X (ix2 r k)) (fun k => A (ix2 r k)) (fun k q => O (ix3 0 k q)) q := by
  pointwise [mixed, dot]

/-- The up projection. -/
theorem up_at (H : FVec Ideal S65536x1024 .f32) (W : FVec Ideal S1024x5632 .f32) (r : Fin 65536) (q : Fin 5632) :
    Host.dotGeneral dot_S65536x1024_S1024x5632_S65536x5632_1_0_0_1_n_n none H W (ix2 r q)
      = dot (fun k => H (ix2 r k)) (fun k => W (ix2 k q)) := by
  pointwise [dot]

/-- The gated units from the up projection. -/
theorem glu_at (P : FVec Ideal S65536x5632 .f32) (r : Fin 65536) (k : Fin 2816) :
    mulf (mulf (extractStridedSlice S65536x2816 ![0, 0] P slices_S65536x5632_S65536x2816_0_0)
        (Host.divf (broadcastInDim S65536x2816 ![] bcast_S_S65536x2816 (constant S_ .f32 0x3F800000#32))
          (addf (broadcastInDim S65536x2816 ![] bcast_S_S65536x2816 (constant (F := Ideal) S_ .f32 0x3F800000#32))
            (Host.exp (Host.negf (extractStridedSlice S65536x2816 ![0, 0] P slices_S65536x5632_S65536x2816_0_0))))))
        (extractStridedSlice S65536x2816 ![0, 2816] P slices_S65536x5632_S65536x2816_0_2816) (ix2 r k)
      = glu (P (ix2 r ⟨k.val, by omega⟩)) (P (ix2 r ⟨2816 + k.val, by omega⟩)) := by
  pointwise [glu, Ideal.logistic]

/-- The down projection, added to the rows. -/
theorem down_at (Y : FVec Ideal S65536x1024 .f32) (H : FVec Ideal S65536x2816 .f32) (D : FVec Ideal S2816x1024 .f32)
    (r : Fin 65536) (q : Fin 1024) :
    addf Y (Host.dotGeneral dot_S65536x2816_S2816x1024_S65536x1024_1_0_0_1_n_n none H D) (ix2 r q)
      = Y (ix2 r q) + dot (fun k => H (ix2 r k)) (fun k => D (ix2 k q)) := by
  pointwise [dot]

/-- One row of the gains. -/
theorem gain_at (G : FVec Ideal S2x1024 .f32) (k : Fin 1024) :
    shapeCast S1024 (extractStridedSlice S1x1024 ![0, 0] G slices_S2x1024_S1x1024_0_0) shapeCasts_S1x1024_S1024 (ix1 k)
      = G (ix2 0 k) := by
  pointwise

/-- The first of the up projection's matrices. -/
theorem upMatrix_at (W : FVec Ideal S2x1024x5632 .f32) (k : Fin 1024) (q : Fin 5632) :
    shapeCast S1024x5632 (extractStridedSlice S1x1024x5632 ![0, 0, 0] W slices_S2x1024x5632_S1x1024x5632_0_0_0)
      shapeCasts_S1x1024x5632_S1024x5632 (ix2 k q) = W (ix3 0 k q) := by
  pointwise

/-- The first of the down projection's matrices. -/
theorem downMatrix_at (D : FVec Ideal S2x2816x1024 .f32) (k : Fin 2816) (q : Fin 1024) :
    shapeCast S2816x1024 (extractStridedSlice S1x2816x1024 ![0, 0, 0] D slices_S2x2816x1024_S1x2816x1024_0_0_0)
      shapeCasts_S1x2816x1024_S2816x1024 (ix2 k q) = D (ix3 0 k q) := by
  pointwise

/-- The feed-forward part of normed rows `H`, added to the rows `Y`. -/
theorem ffn_at (Y H : FVec Ideal S65536x1024 .f32) (W : FVec Ideal S1024x5632 .f32) (D : FVec Ideal S2816x1024 .f32)
    (r : Fin 65536) (q : Fin 1024) :
    addf Y (Host.dotGeneral dot_S65536x2816_S2816x1024_S65536x1024_1_0_0_1_n_n none
      (mulf (mulf (extractStridedSlice S65536x2816 ![0, 0]
            (Host.dotGeneral dot_S65536x1024_S1024x5632_S65536x5632_1_0_0_1_n_n none H W) slices_S65536x5632_S65536x2816_0_0)
          (Host.divf (broadcastInDim S65536x2816 ![] bcast_S_S65536x2816 (constant S_ .f32 0x3F800000#32))
            (addf (broadcastInDim S65536x2816 ![] bcast_S_S65536x2816 (constant (F := Ideal) S_ .f32 0x3F800000#32))
              (Host.exp (Host.negf (extractStridedSlice S65536x2816 ![0, 0]
                (Host.dotGeneral dot_S65536x1024_S1024x5632_S65536x5632_1_0_0_1_n_n none H W)
                slices_S65536x5632_S65536x2816_0_0))))))
        (extractStridedSlice S65536x2816 ![0, 2816]
          (Host.dotGeneral dot_S65536x1024_S1024x5632_S65536x5632_1_0_0_1_n_n none H W) slices_S65536x5632_S65536x2816_0_2816)) D)
      (ix2 r q)
      = Y (ix2 r q) + dot (hidden (fun k => H (ix2 r k)) fun k q => W (ix2 k q)) (fun k => D (ix2 k q)) := by
  refine (down_at _ _ _ _ _).trans (congrArg (Y (ix2 r q) + ·) (congrArg₂ dot (funext fun k => (glu_at _ r k).trans ?_) rfl))
  exact congrArg₂ glu (up_at _ _ _ _) (up_at _ _ _ _)

/-- The reference ends with `rowsOut` of its arguments. -/
theorem run : θ_run defs (onTc (τ := τ) (main (F := Ideal))) ⟨m, fun _ => 0, ρ⟩ fun r => ∀ c : Dev nD,
      r.2.mem ((c.tc : Thread nD τ).loc main_v29) = rowsOut (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Value.run m ρ)
  unfold Value.res_main_v29
  generalize m ((c.tc : Thread nD τ).loc main_arg0) = X, m ((c.tc : Thread nD τ).loc main_arg1) = A,
    m ((c.tc : Thread nD τ).loc main_arg2) = O, m ((c.tc : Thread nD τ).loc main_arg3) = G,
    m ((c.tc : Thread nD τ).loc main_arg4) = W, m ((c.tc : Thread nD τ).loc main_arg5) = D
  have hY := fun r q => mixed_at X A O r q
  generalize addf (F := Ideal) X (Host.dotGeneral dot_S65536x1024_S1024x1024_S65536x1024_1_0_0_1_n_n none (extf .f32 A bitsLt_bf16_f32)
        (shapeCast _ O shapeCasts_S1x1024x1024_S1024x1024)) = Y at hY ⊢
  funext i
  idx_vars i
  refine (ffn_at Y _ _ _ _ _).trans ?_
  unfold rowsOut fed
  refine congrArg₂ (· + ·) (hY _ _) (congrArg₂ dot (congrArg₂ Layer.hidden (funext fun k => (ref_normed Y _ _ k).trans ?_)
    (funext fun k => funext fun q => upMatrix_at W k q)) (funext fun k => downMatrix_at D k _))
  exact congrFun (congrArg₂ normed (funext fun k => hY _ k) (funext fun k => gain_at G k)) k

end Cert.PostRefIdeal.Mine
-- ==== Proof.PostEq.lean ====
module

public import proofs.«01_k».proof.Defs
public import proofs.«01_k».proof.Proof.PostRef

@[expose] public section

set_option maxRecDepth 16384

noncomputable section

/-! The first layer's output and feed-forward call computes what its reference does. -/

namespace Cert.PostIdeal.Mine

open Idealize.ShloMosaic Idealize.ShloMosaic.TcCoe Idealize.SL.Sem

/-- Kernel and reference end with equal rows. -/
theorem equal : algebraic_PostIdeal_PostRefIdeal (hPostIdeal := Cert.PostIdeal.Gen.facts)
    (hPostRefIdeal := Cert.PostRefIdeal.Gen.facts) := by
  pair_intro
  · run_from Cert.PostIdeal.Gen.frame m g & Cert.PostIdeal.Gen.run_main m g
  · run_from Cert.PostRefIdeal.Mine.run m' g'
    · exact (final6 m c).symm

end Cert.PostIdeal.Mine
-- ==== Proof.FinalRefA.lean ====
module

public import proofs.«01_k».proof.Proof.Gen.FinalRefIdeal.Run
public import proofs.«01_k».proof.Proof.Combine
public import proofs.«01_k».proof.Proof.RefNorm

@[expose] public section

set_option maxRecDepth 16384

noncomputable section

/-! What the reference of the last layer's output projection, feed-forward part and norm computes. -/

namespace Cert.FinalRefIdeal.Mine

open Cert.FinalRefIdeal Cert.FinalRefIdeal.Gen Idealize.ShloMosaic Idealize.ShloMosaic.TcCoe Idealize.SL.Sem Cert.Layer

/-- The three log-sum-exps side by side, each split by key head and group. -/
def lses (L0 L1 L2 : FVec Ideal S65536x16 .f32) : FVec Ideal S65536x4x4x3 .f32 :=
  concatenate S65536x4x4x3 3 [
    ⟨S65536x4x4x1, broadcastInDim S65536x4x4x1 ![0, 1, 2] bcast_S65536x4x4_S65536x4x4x1_0_1_2 (shapeCast _ L0 shapeCasts_S65536x16_S65536x4x4)⟩,
    ⟨S65536x4x4x1, broadcastInDim S65536x4x4x1 ![0, 1, 2] bcast_S65536x4x4_S65536x4x4x1_0_1_2 (shapeCast _ L1 shapeCasts_S65536x16_S65536x4x4)⟩,
    ⟨S65536x4x4x1, broadcastInDim S65536x4x4x1 ![0, 1, 2] bcast_S65536x4x4_S65536x4x4x1_0_1_2 (shapeCast _ L2 shapeCasts_S65536x16_S65536x4x4)⟩]
    concatenates_S65536x4x4x1_S65536x4x4x1_S65536x4x4x1_S65536x4x4x3_d3

/-- The three outputs side by side, each split by key head, group and feature. -/
def outs (A0 A1 A2 : FVec Ideal S65536x1024 .bf16) : FVec Ideal S65536x4x4x64x3 .f32 :=
  concatenate S65536x4x4x64x3 4 [
    ⟨S65536x4x4x64x1, broadcastInDim S65536x4x4x64x1 ![0, 1, 2, 3] bcast_S65536x4x4x64_S65536x4x4x64x1_0_1_2_3 (shapeCast _ (extf .f32 A0 bitsLt_bf16_f32) shapeCasts_S65536x1024_S65536x4x4x64)⟩,
    ⟨S65536x4x4x64x1, broadcastInDim S65536x4x4x64x1 ![0, 1, 2, 3] bcast_S65536x4x4x64_S65536x4x4x64x1_0_1_2_3 (shapeCast _ (extf .f32 A1 bitsLt_bf16_f32) shapeCasts_S65536x1024_S65536x4x4x64)⟩,
    ⟨S65536x4x4x64x1, broadcastInDim S65536x4x4x64x1 ![0, 1, 2, 3] bcast_S65536x4x4x64_S65536x4x4x64x1_0_1_2_3 (shapeCast _ (extf .f32 A2 bitsLt_bf16_f32) shapeCasts_S65536x1024_S65536x4x4x64)⟩]
    concatenates_S65536x4x4x64x1_S65536x4x4x64x1_S65536x4x4x64x1_S65536x4x4x64x3_d4

/-- Read at call 0. -/
theorem lses_0 (L0 L1 L2 : FVec Ideal S65536x16 .f32) (r : Fin 65536) (b g : Fin 4) :
    lses L0 L1 L2 (ix4 r b g 0) = L0 (ix2 r ⟨b.val * 4 + g.val, by omega⟩) := by
  pointwise [lses]

/-- Read at call 1. -/
theorem lses_1 (L0 L1 L2 : FVec Ideal S65536x16 .f32) (r : Fin 65536) (b g : Fin 4) :
    lses L0 L1 L2 (ix4 r b g 1) = L1 (ix2 r ⟨b.val * 4 + g.val, by omega⟩) := by
  pointwise [lses]

/-- Read at call 2. -/
theorem lses_2 (L0 L1 L2 : FVec Ideal S65536x16 .f32) (r : Fin 65536) (b g : Fin 4) :
    lses L0 L1 L2 (ix4 r b g 2) = L2 (ix2 r ⟨b.val * 4 + g.val, by omega⟩) := by
  pointwise [lses]

/-- Read at call 0. -/
theorem outs_0 (A0 A1 A2 : FVec Ideal S65536x1024 .bf16) (r : Fin 65536) (b g : Fin 4) (d : Fin 64) :
    outs A0 A1 A2 (ix5 r b g d 0) = A0 (ix2 r ⟨b.val * 256 + g.val * 64 + d.val, by omega⟩) := by
  pointwise [outs]

/-- Read at call 1. -/
theorem outs_1 (A0 A1 A2 : FVec Ideal S65536x1024 .bf16) (r : Fin 65536) (b g : Fin 4) (d : Fin 64) :
    outs A0 A1 A2 (ix5 r b g d 1) = A1 (ix2 r ⟨b.val * 256 + g.val * 64 + d.val, by omega⟩) := by
  pointwise [outs]

/-- Read at call 2. -/
theorem outs_2 (A0 A1 A2 : FVec Ideal S65536x1024 .bf16) (r : Fin 65536) (b g : Fin 4) (d : Fin 64) :
    outs A0 A1 A2 (ix5 r b g d 2) = A2 (ix2 r ⟨b.val * 256 + g.val * 64 + d.val, by omega⟩) := by
  pointwise [outs]

/-- The largest of the three, as the reference reduces them. -/
theorem reduce_at (L : FVec Ideal S65536x4x4x3 .f32) (r : Fin 65536) (b g : Fin 4) :
    Host.reduce FloatOps.maximumf L (constant S_ .f32 0xFF800000#32) reducesTo_S65536x4x4x3_S65536x4x4_d3 h_S_ (ix3 r b g)
      = Finset.univ.fold max (Ideal.ofBits FTy.f32 0xFF800000#32) (fun x : Fin 3 => L (ix4 r b g x)) := by
  pointwise

/-- The reduction starts at minus infinity. -/
theorem negInf : Ideal.ofBits FTy.f32 0xFF800000#32 = ⊥ := by
  simp [Ideal.ofBits, Ideal.ieee]

/-- The greatest of three, folded from minus infinity. -/
theorem fold3 (f : Fin 3 → EReal) : max ⊥ (Finset.univ.fold max ⊥ f) = max (max (f 0) (f 1)) (f 2) := by
  rw [show (Finset.univ : Finset (Fin 3)) = {0, 1, 2} from rfl, Finset.fold_insert (by decide), Finset.fold_insert (by decide), Finset.fold_singleton]
  simp [max_assoc]

/-- The greater of minus infinity and a value. -/
theorem floor_at (M : FVec Ideal S65536x4x4 .f32) (r : Fin 65536) (b g : Fin 4) :
    maximumf (broadcastInDim S65536x4x4 ![] bcast_S_S65536x4x4 (constant S_ .f32 0xFF800000#32)) M (ix3 r b g)
      = max (Ideal.ofBits FTy.f32 0xFF800000#32) (M (ix3 r b g)) := by
  pointwise

/-- The largest log-sum-exp. -/
def tops0 (L : FVec Ideal S65536x4x4x3 .f32) : FVec Ideal S65536x4x4 .f32 :=
  Host.reduce FloatOps.maximumf L (constant S_ .f32 0xFF800000#32) reducesTo_S65536x4x4x3_S65536x4x4_d3 h_S_

/-- The largest log-sum-exp, bounded below by minus infinity. -/
def tops (L : FVec Ideal S65536x4x4x3 .f32) : FVec Ideal S65536x4x4 .f32 :=
  maximumf (broadcastInDim S65536x4x4 ![] bcast_S_S65536x4x4 (constant S_ .f32 0xFF800000#32)) (tops0 L)

/-- Its entries. -/
theorem tops0_at (L : FVec Ideal S65536x4x4x3 .f32) (r : Fin 65536) (b g : Fin 4) :
    tops0 L (ix3 r b g) = Finset.univ.fold max (Ideal.ofBits FTy.f32 0xFF800000#32) (fun x : Fin 3 => L (ix4 r b g x)) :=
  reduce_at L r b g

/-- It is the greatest of the three. -/
theorem tops_at (L : FVec Ideal S65536x4x4x3 .f32) (r : Fin 65536) (b g : Fin 4) :
    tops L (ix3 r b g) = top3 (fun j => L (ix4 r b g j)) := by
  have h := tops0_at L r b g
  unfold tops
  generalize tops0 L = M at h ⊢
  refine (floor_at M r b g).trans ?_
  generalize M (ix3 r b g) = z at h ⊢
  subst h
  generalize (fun x : Fin 3 => L (ix4 r b g x)) = f
  rw [negInf]
  exact fold3 f

/-- The unnormalised weights. -/
def parts (L : FVec Ideal S65536x4x4x3 .f32) : FVec Ideal S65536x4x4x3 .f32 :=
  Host.exp (subf L (broadcastInDim S65536x4x4x3 ![0, 1, 2, 3] bcast_S65536x4x4x1_S65536x4x4x3_0_1_2_3
    (broadcastInDim S65536x4x4x1 ![0, 1, 2] bcast_S65536x4x4_S65536x4x4x1_0_1_2 (tops L))))

/-- Their entries. -/
theorem parts_at (L : FVec Ideal S65536x4x4x3 .f32) (r : Fin 65536) (b g : Fin 4) (i : Fin 3) :
    parts L (ix4 r b g i) = part (fun j => L (ix4 r b g j)) i := by
  unfold part
  rw [← tops_at]
  unfold parts
  generalize tops L = T
  pointwise

/-- The weights. -/
def weights (P : FVec Ideal S65536x4x4x3 .f32) : FVec Ideal S65536x4x4x3 .f32 :=
  Host.divf P (broadcastInDim S65536x4x4x3 ![0, 1, 2, 3] bcast_S65536x4x4x1_S65536x4x4x3_0_1_2_3
    (broadcastInDim S65536x4x4x1 ![0, 1, 2] bcast_S65536x4x4_S65536x4x4x1_0_1_2
      (Host.reduceAdd P (constant S_ .f32 0x00000000#32) reducesTo_S65536x4x4x3_S65536x4x4_d3 h_S_)))

/-- Their entries. -/
theorem weights_at (P : FVec Ideal S65536x4x4x3 .f32) (r : Fin 65536) (b g : Fin 4) (i : Fin 3) :
    weights P (ix4 r b g i) = Ideal.div (P (ix4 r b g i)) (P (ix4 r b g 0) + P (ix4 r b g 1) + P (ix4 r b g 2)) := by
  pointwise [weights, Fin.sum_univ_three]

/-- The weighted sum of the outputs, heads side by side again. -/
def mixture (A : FVec Ideal S65536x4x4x64x3 .f32) (w : FVec Ideal S65536x4x4x3 .f32) : FVec Ideal S65536x1024 .f32 :=
  shapeCast _ (Host.dotGeneral dot_S65536x4x4x64x3_S65536x4x4x3_S65536x4x4x64_4_3_3_n_012_012 none A w) shapeCasts_S65536x4x4x64_S65536x1024

/-- Its entries. -/
theorem mixture_at (A : FVec Ideal S65536x4x4x64x3 .f32) (w : FVec Ideal S65536x4x4x3 .f32) (r : Fin 65536) (k : Fin 1024) :
    mixture A w (ix2 r k) = ∑ i : Fin 3, A (ix5 r ⟨k.val / 256, by omega⟩ ⟨k.val / 64 % 4, by omega⟩ ⟨k.val % 64, by omega⟩ i)
      * w (ix4 r ⟨k.val / 256, by omega⟩ ⟨k.val / 64 % 4, by omega⟩ i) := by
  pointwise [mixture]

/-- The output projection, added to the rows. -/
theorem project_at (X M : FVec Ideal S65536x1024 .f32) (O : FVec Ideal S1x1024x1024 .f32)
    (r : Fin 65536) (q : Fin 1024) :
    addf X (Host.dotGeneral dot_S65536x1024_S1024x1024_S65536x1024_1_0_0_1_n_n none M
        (shapeCast _ O shapeCasts_S1x1024x1024_S1024x1024)) (ix2 r q)
      = mixed (fun k => X (ix2 r k)) (fun k => M (ix2 r k)) (fun k q => O (ix3 0 k q)) q := by
  pointwise [mixed, dot]

/-- The up projection. -/
theorem up_at (H : FVec Ideal S65536x1024 .f32) (W : FVec Ideal S1024x5632 .f32) (r : Fin 65536) (q : Fin 5632) :
    Host.dotGeneral dot_S65536x1024_S1024x5632_S65536x5632_1_0_0_1_n_n none H W (ix2 r q)
      = dot (fun k => H (ix2 r k)) (fun k => W (ix2 k q)) := by
  pointwise [dot]

/-- The gated units from the up projection. -/
theorem glu_at (P : FVec Ideal S65536x5632 .f32) (r : Fin 65536) (k : Fin 2816) :
    mulf (mulf (extractStridedSlice S65536x2816 ![0, 0] P slices_S65536x5632_S65536x2816_0_0)
        (Host.divf (broadcastInDim S65536x2816 ![] bcast_S_S65536x2816 (constant S_ .f32 0x3F800000#32))
          (addf (broadcastInDim S65536x2816 ![] bcast_S_S65536x2816 (constant (F := Ideal) S_ .f32 0x3F800000#32))
            (Host.exp (Host.negf (extractStridedSlice S65536x2816 ![0, 0] P slices_S65536x5632_S65536x2816_0_0))))))
        (extractStridedSlice S65536x2816 ![0, 2816] P slices_S65536x5632_S65536x2816_0_2816) (ix2 r k)
      = glu (P (ix2 r ⟨k.val, by omega⟩)) (P (ix2 r ⟨2816 + k.val, by omega⟩)) := by
  pointwise [glu, Ideal.logistic]

/-- The down projection, added to the rows. -/
theorem down_at (Y : FVec Ideal S65536x1024 .f32) (H : FVec Ideal S65536x2816 .f32) (D : FVec Ideal S2816x1024 .f32)
    (r : Fin 65536) (q : Fin 1024) :
    addf Y (Host.dotGeneral dot_S65536x2816_S2816x1024_S65536x1024_1_0_0_1_n_n none H D) (ix2 r q)
      = Y (ix2 r q) + dot (fun k => H (ix2 r k)) (fun k => D (ix2 k q)) := by
  pointwise [dot]

/-- The feed-forward part of normed rows `H`, added to the rows `Y`. -/
theorem ffn_at (Y H : FVec Ideal S65536x1024 .f32) (W : FVec Ideal S1024x5632 .f32) (D : FVec Ideal S2816x1024 .f32)
    (r : Fin 65536) (q : Fin 1024) :
    addf Y (Host.dotGeneral dot_S65536x2816_S2816x1024_S65536x1024_1_0_0_1_n_n none
      (mulf (mulf (extractStridedSlice S65536x2816 ![0, 0]
            (Host.dotGeneral dot_S65536x1024_S1024x5632_S65536x5632_1_0_0_1_n_n none H W) slices_S65536x5632_S65536x2816_0_0)
          (Host.divf (broadcastInDim S65536x2816 ![] bcast_S_S65536x2816 (constant S_ .f32 0x3F800000#32))
            (addf (broadcastInDim S65536x2816 ![] bcast_S_S65536x2816 (constant (F := Ideal) S_ .f32 0x3F800000#32))
              (Host.exp (Host.negf (extractStridedSlice S65536x2816 ![0, 0]
                (Host.dotGeneral dot_S65536x1024_S1024x5632_S65536x5632_1_0_0_1_n_n none H W)
                slices_S65536x5632_S65536x2816_0_0))))))
        (extractStridedSlice S65536x2816 ![0, 2816]
          (Host.dotGeneral dot_S65536x1024_S1024x5632_S65536x5632_1_0_0_1_n_n none H W) slices_S65536x5632_S65536x2816_0_2816)) D)
      (ix2 r q)
      = Y (ix2 r q) + dot (hidden (fun k => H (ix2 r k)) fun k q => W (ix2 k q)) (fun k => D (ix2 k q)) := by
  refine (down_at _ _ _ _ _).trans (congrArg (Y (ix2 r q) + ·) (congrArg₂ dot (funext fun k => (glu_at _ r k).trans ?_) rfl))
  exact congrArg₂ glu (up_at _ _ _ _) (up_at _ _ _ _)

/-- The reference's weighted sum is `combined`. -/
theorem combined_at (A0 A1 A2 : FVec Ideal S65536x1024 .bf16) (L0 L1 L2 : FVec Ideal S65536x16 .f32) (r : Fin 65536) (k : Fin 1024) :
    mixture (outs A0 A1 A2) (weights (parts (lses L0 L1 L2))) (ix2 r k)
      = combined ![fun k => A0 (ix2 r k), fun k => A1 (ix2 r k), fun k => A2 (ix2 r k)]
          ![fun h => L0 (ix2 r h), fun h => L1 (ix2 r h), fun h => L2 (ix2 r h)] k := by
  have hk : ∀ A : FVec Ideal S65536x1024 .bf16,
      A (ix2 r ⟨k.val / 256 * 256 + k.val / 64 % 4 * 64 + k.val % 64, by omega⟩) = A (ix2 r k) :=
    fun A => congrArg (fun j => A (ix2 r j)) (Fin.ext (by dsimp only <;> omega))
  have hh : ∀ L : FVec Ideal S65536x16 .f32,
      L (ix2 r ⟨k.val / 256 * 4 + k.val / 64 % 4, by omega⟩) = L (ix2 r ⟨k.val / 64, by omega⟩) :=
    fun L => congrArg (fun j => L (ix2 r j)) (Fin.ext (by dsimp only <;> omega))
  have hl : (fun j => lses L0 L1 L2 (ix4 r ⟨k.val / 256, by omega⟩ ⟨k.val / 64 % 4, by omega⟩ j))
      = fun j => (![fun h => L0 (ix2 r h), fun h => L1 (ix2 r h), fun h => L2 (ix2 r h)] : Fin 3 → Fin 16 → EReal) j ⟨k.val / 64, by omega⟩ := by
    funext j
    fin_cases j
    · exact (lses_0 _ _ _ _ _ _).trans (hh L0)
    · exact (lses_1 _ _ _ _ _ _).trans (hh L1)
    · exact (lses_2 _ _ _ _ _ _).trans (hh L2)
  have hw : ∀ i, weights (parts (lses L0 L1 L2)) (ix4 r ⟨k.val / 256, by omega⟩ ⟨k.val / 64 % 4, by omega⟩ i)
      = weight (fun j => (![fun h => L0 (ix2 r h), fun h => L1 (ix2 r h), fun h => L2 (ix2 r h)] : Fin 3 → Fin 16 → EReal) j ⟨k.val / 64, by omega⟩) i := by
    intro i
    rw [weights_at, parts_at, parts_at, parts_at, parts_at, hl]
    rfl
  rw [mixture_at, Fin.sum_univ_three, hw, hw, hw, outs_0, outs_1, outs_2, hk A0, hk A1, hk A2]
  rfl

/-- The rows with the combined attention's output projected and added. -/
def projected (X : FVec Ideal S65536x1024 .f32) (A0 A1 A2 : FVec Ideal S65536x1024 .bf16) (L0 L1 L2 : FVec Ideal S65536x16 .f32)
    (O : FVec Ideal S1x1024x1024 .f32) : FVec Ideal S65536x1024 .f32 :=
  addf X (Host.dotGeneral dot_S65536x1024_S1024x1024_S65536x1024_1_0_0_1_n_n none (mixture (outs A0 A1 A2) (weights (parts (lses L0 L1 L2))))
        (shapeCast _ O shapeCasts_S1x1024x1024_S1024x1024))

/-- Their entries. -/
theorem projected_at (X : FVec Ideal S65536x1024 .f32) (A0 A1 A2 : FVec Ideal S65536x1024 .bf16) (L0 L1 L2 : FVec Ideal S65536x16 .f32)
    (O : FVec Ideal S1x1024x1024 .f32) (r : Fin 65536) (q : Fin 1024) :
    projected X A0 A1 A2 L0 L1 L2 O (ix2 r q)
      = mixed (fun k => X (ix2 r k)) (combined ![fun k => A0 (ix2 r k), fun k => A1 (ix2 r k), fun k => A2 (ix2 r k)]
          ![fun h => L0 (ix2 r h), fun h => L1 (ix2 r h), fun h => L2 (ix2 r h)]) (fun k q => O (ix3 0 k q)) q := by
  refine (project_at X (mixture (outs A0 A1 A2) (weights (parts (lses L0 L1 L2)))) O r q).trans ?_
  exact congrFun (congrArg₂ (mixed _) (funext fun k => combined_at A0 A1 A2 L0 L1 L2 r k) rfl) q

/-- One row of the gains. -/
theorem gain_at (G : FVec Ideal S2x1024 .f32) (k : Fin 1024) :
    shapeCast S1024 (extractStridedSlice S1x1024 ![1, 0] G slices_S2x1024_S1x1024_1_0) shapeCasts_S1x1024_S1024 (ix1 k)
      = G (ix2 1 k) := by
  pointwise

/-- The second of the up projection's matrices. -/
theorem upMatrix_at (W : FVec Ideal S2x1024x5632 .f32) (k : Fin 1024) (q : Fin 5632) :
    shapeCast S1024x5632 (extractStridedSlice S1x1024x5632 ![1, 0, 0] W slices_S2x1024x5632_S1x1024x5632_1_0_0)
      shapeCasts_S1x1024x5632_S1024x5632 (ix2 k q) = W (ix3 1 k q) := by
  pointwise

/-- The second of the down projection's matrices. -/
theorem downMatrix_at (D : FVec Ideal S2x2816x1024 .f32) (k : Fin 2816) (q : Fin 1024) :
    shapeCast S2816x1024 (extractStridedSlice S1x2816x1024 ![1, 0, 0] D slices_S2x2816x1024_S1x2816x1024_1_0_0)
      shapeCasts_S1x2816x1024_S2816x1024 (ix2 k q) = D (ix3 1 k q) := by
  pointwise

end Cert.FinalRefIdeal.Mine
-- ==== Proof.FinalBlock.lean ====
module

public import proofs.«01_k».proof.Proof.Gen.FinalIdeal.Frame
public import proofs.«01_k».proof.Proof.Combine

@[expose] public section

set_option maxRecDepth 16384

noncomputable section

/-! What one grid point of the last layer's output and feed-forward call stores: its block of rows. -/

namespace Cert.FinalIdeal.Mine

open Cert.FinalIdeal Cert.FinalIdeal.Gen Idealize.ShloMosaic Idealize.ShloMosaic.TcCoe Idealize.SL.Sem Cert.Layer

/-- The weight of a call whose log-sum-exp is `x`, beside `a`, `b` and `c`. -/
def weightOf (x a b c : EReal) : EReal :=
  Ideal.div (Ideal.exp (x - max (max a b) c)) (Ideal.exp (a - max (max a b) c) + Ideal.exp (b - max (max a b) c) + Ideal.exp (c - max (max a b) c))

/-- Two of the calls' outputs, weighted and added. -/
theorem pay8_at (l0 l1 l2 : Vec Ideal S512x16 .f32) (e : Vec Ideal S16x1024 .bf16) (a0 a1 : Vec Ideal S512x1024 .bf16)
    (r : Fin 512) (k : Fin 1024) :
    k0_pay8 l0 l1 l2 e a0 a1 (ix2 r k)
      = (dot (fun h => weightOf (l0 (ix2 r h)) (l0 (ix2 r h)) (l1 (ix2 r h)) (l2 (ix2 r h))) (fun h => e (ix2 h k))
          + dot (fun h => weightOf (l0 (ix2 r h)) (l0 (ix2 r h)) (l1 (ix2 r h)) (l2 (ix2 r h))
              - weightOf (l0 (ix2 r h)) (l0 (ix2 r h)) (l1 (ix2 r h)) (l2 (ix2 r h))) (fun h => e (ix2 h k))) * a0 (ix2 r k)
        + (dot (fun h => weightOf (l1 (ix2 r h)) (l0 (ix2 r h)) (l1 (ix2 r h)) (l2 (ix2 r h))) (fun h => e (ix2 h k))
          + dot (fun h => weightOf (l1 (ix2 r h)) (l0 (ix2 r h)) (l1 (ix2 r h)) (l2 (ix2 r h))
              - weightOf (l1 (ix2 r h)) (l0 (ix2 r h)) (l1 (ix2 r h)) (l2 (ix2 r h))) (fun h => e (ix2 h k))) * a1 (ix2 r k) := by
  pointwise [k0_pay8, k0_pay7, k0_pay6, k0_pay5, k0_pay4, k0_pay3, k0_pay2, weightOf, dot]

/-- The third call's weights. -/
theorem pay9_at (l0 l1 l2 : Vec Ideal S512x16 .f32) (r : Fin 512) (h : Fin 16) :
    k0_pay9 l0 l1 l2 (ix2 r h) = weightOf (l2 (ix2 r h)) (l0 (ix2 r h)) (l1 (ix2 r h)) (l2 (ix2 r h)) := by
  pointwise [k0_pay9, k0_pay6, k0_pay5, k0_pay4, k0_pay3, k0_pay2, weightOf]

/-- The rows with the combined attention's output projected and added, from the first two calls' sum. -/
theorem pay11_at (e : Vec Ideal S16x1024 .bf16) (s : FVec Ideal S512x1024 .f32) (w : FVec Ideal S512x16 .f32)
    (a : Vec Ideal S512x1024 .bf16) (x : Vec Ideal S512x1024 .f32) (o : Vec Ideal S1024x1024 .bf16) (r : Fin 512) (q : Fin 1024) :
    k0_pay11 (k0_pay7 e) s w (truncf .bf16 w bitsLt_bf16_f32) a x o (ix2 r q)
      = mixed (fun k => x (ix2 r k)) (fun k => s (ix2 r k)
          + (dot (fun h => w (ix2 r h)) (fun h => e (ix2 h k)) + dot (fun h => w (ix2 r h) - w (ix2 r h)) (fun h => e (ix2 h k))) * a (ix2 r k))
          (fun k q => o (ix2 k q)) q := by
  pointwise [k0_pay11, k0_pay7, mixed, dot]

/-- Those rows, from the three calls' outputs and log-sum-exps. -/
theorem mixed_at (l0 l1 l2 : Vec Ideal S512x16 .f32) (e : Vec Ideal S16x1024 .bf16) (a0 a1 a2 : Vec Ideal S512x1024 .bf16)
    (x : Vec Ideal S512x1024 .f32) (o : Vec Ideal S1024x1024 .bf16) (r : Fin 512) (q : Fin 1024)
    (he : ∀ (h : Fin 16) (k : Fin 1024), e (ix2 h k) = if h = ⟨k.val / 64, by omega⟩ then 1 else 0) :
    k0_pay11 (k0_pay7 e) (k0_pay8 l0 l1 l2 e a0 a1) (k0_pay9 l0 l1 l2) (k0_pay10 l0 l1 l2) a2 x o (ix2 r q)
      = mixed (fun k => x (ix2 r k))
          (combined ![fun k => a0 (ix2 r k), fun k => a1 (ix2 r k), fun k => a2 (ix2 r k)]
            ![fun h => l0 (ix2 r h), fun h => l1 (ix2 r h), fun h => l2 (ix2 r h)])
          (fun k q => o (ix2 k q)) q := by
  refine (pay11_at e (k0_pay8 l0 l1 l2 e a0 a1) (k0_pay9 l0 l1 l2) a2 x o r q).trans ?_
  refine congrFun (congrArg₂ (mixed _) (funext fun k => ?_) rfl) q
  rw [pay8_at]
  simp only [pay9_at]
  have s := fun i => spread ![fun h => l0 (ix2 r h), fun h => l1 (ix2 r h), fun h => l2 (ix2 r h)] i (fun h => e (ix2 h k))
    ⟨k.val / 64, by omega⟩ (fun h => he h k)
  exact congrArg₂ (· + ·) (congrArg₂ (· + ·) ((congrArg (· * _) (s 0)).trans (mul_comm _ _)) ((congrArg (· * _) (s 1)).trans (mul_comm _ _)))
    ((congrArg (· * _) (s 2)).trans (mul_comm _ _))

/-- Those rows normed. -/
theorem pay12_at (e : FVec Ideal S16x1024 .bf16) (s : FVec Ideal S512x1024 .f32) (w : FVec Ideal S512x16 .f32) (w' : FVec Ideal S512x16 .bf16)
    (a : Vec Ideal S512x1024 .bf16) (x : Vec Ideal S512x1024 .f32) (o : Vec Ideal S1024x1024 .bf16)
    (g : Vec Ideal S1x1024 .f32) (r : Fin 512) (q : Fin 1024) :
    k0_pay12 e s w w' a x o g (ix2 r q) = normed (fun k => k0_pay11 e s w w' a x o (ix2 r k)) (fun k => g (ix2 0 k)) q := by
  pointwise [k0_pay12, normed, rootMs]

section Chunks

variable (h : FVec Ideal S512x1024 .bf16) (u v : Vec Ideal S1024x256 .bf16) (r : Fin 512) (q : Fin 256)

/-- The first chunk of hidden units. -/
theorem pay14_at (e : FVec Ideal S16x1024 .bf16) (s : FVec Ideal S512x1024 .f32) (w : FVec Ideal S512x16 .f32) (w' : FVec Ideal S512x16 .bf16)
    (a : Vec Ideal S512x1024 .bf16) (x : Vec Ideal S512x1024 .f32) (o : Vec Ideal S1024x1024 .bf16)
    (g : Vec Ideal S1x1024 .f32) : k0_pay14 (k0_pay13 e s w w' a x o g u v) (ix2 r q)
      = glu (dot (fun k => k0_pay12 e s w w' a x o g (ix2 r k)) fun k => u (ix2 k q)) (dot (fun k => k0_pay12 e s w w' a x o g (ix2 r k)) fun k => v (ix2 k q)) := by
  pointwise [k0_pay14, k0_pay13, glu, dot]
/-- The second chunk. -/
theorem pay15_at : k0_pay15 h u v (ix2 r q)
    = glu (dot (fun k => h (ix2 r k)) fun k => u (ix2 k q)) (dot (fun k => h (ix2 r k)) fun k => v (ix2 k q)) := by
  pointwise [k0_pay15, glu, dot]
/-- The third chunk. -/
theorem pay16_at : k0_pay16 h u v (ix2 r q)
    = glu (dot (fun k => h (ix2 r k)) fun k => u (ix2 k q)) (dot (fun k => h (ix2 r k)) fun k => v (ix2 k q)) := by
  pointwise [k0_pay16, glu, dot]
/-- The fourth chunk. -/
theorem pay17_at : k0_pay17 h u v (ix2 r q)
    = glu (dot (fun k => h (ix2 r k)) fun k => u (ix2 k q)) (dot (fun k => h (ix2 r k)) fun k => v (ix2 k q)) := by
  pointwise [k0_pay17, glu, dot]
/-- The fifth chunk. -/
theorem pay20_at : k0_pay20 h (k0_pay18 h u) (k0_pay19 v) (constant S512x256 .f32 0x00000000#32) (ix2 r q)
    = glu (dot (fun k => h (ix2 r k)) fun k => u (ix2 k q)) (dot (fun k => h (ix2 r k)) fun k => v (ix2 k q)) := by
  pointwise [k0_pay20, k0_pay19, k0_pay18, glu, dot]
/-- The sixth chunk. -/
theorem pay21_at : k0_pay21 h u v (ix2 r q)
    = glu (dot (fun k => h (ix2 r k)) fun k => u (ix2 k q)) (dot (fun k => h (ix2 r k)) fun k => v (ix2 k q)) := by
  pointwise [k0_pay21, glu, dot]
/-- The seventh chunk. -/
theorem pay22_at : k0_pay22 h u v (ix2 r q)
    = glu (dot (fun k => h (ix2 r k)) fun k => u (ix2 k q)) (dot (fun k => h (ix2 r k)) fun k => v (ix2 k q)) := by
  pointwise [k0_pay22, glu, dot]
/-- The eighth chunk. -/
theorem pay23_at : k0_pay23 h u v (ix2 r q)
    = glu (dot (fun k => h (ix2 r k)) fun k => u (ix2 k q)) (dot (fun k => h (ix2 r k)) fun k => v (ix2 k q)) := by
  pointwise [k0_pay23, glu, dot]

/-- A chunk of hidden units computed apart, as the last ones are. -/
def chunk (h : FVec Ideal S512x1024 .bf16) (u v : FVec Ideal S1024x256 .bf16) : FVec Ideal S512x256 .bf16 :=
  truncf .bf16 (mulf (mulf (matmul dot_S512x1024_S1024x256_S512x256_1_0_0_1_n_n none h (shapeCast S1024x256 u shapeCasts_S1024x256_S1024x256) (constant S512x256 .f32 0x00000000#32))
    (logistic (matmul dot_S512x1024_S1024x256_S512x256_1_0_0_1_n_n none h (shapeCast S1024x256 u shapeCasts_S1024x256_S1024x256) (constant S512x256 .f32 0x00000000#32))))
    (matmul dot_S512x1024_S1024x256_S512x256_1_0_0_1_n_n none h (shapeCast S1024x256 v shapeCasts_S1024x256_S1024x256) (constant S512x256 .f32 0x00000000#32))) bitsLt_bf16_f32

/-- That chunk's entries. -/
theorem chunk_at : chunk h u v (ix2 r q)
    = glu (dot (fun k => h (ix2 r k)) fun k => u (ix2 k q)) (dot (fun k => h (ix2 r k)) fun k => v (ix2 k q)) := by
  pointwise [chunk, glu, dot]

end Chunks

/-- Rows plus hidden units times the second matrix. -/
theorem down_at (y : FVec Ideal S512x1024 .f32) (z : FVec Ideal S512x2816 .bf16) (d : FVec Ideal S2816x1024 .bf16)
    (r : Fin 512) (q : Fin 1024) :
    addf y (matmul dot_S512x2816_S2816x1024_S512x1024_1_0_0_1_n_n none z (shapeCast S2816x1024 d shapeCasts_S2816x1024_S2816x1024)
      (constant S512x1024 .f32 0x00000000#32)) (ix2 r q)
      = y (ix2 r q) + dot (fun k => z (ix2 r k)) fun k => d (ix2 k q) := by
  pointwise [dot]

/-- The rows fed forward, from the chunks of hidden units. -/
theorem pay25_at (y : FVec Ideal S512x1024 .f32) (h : FVec Ideal S512x1024 .bf16) (p0 p1 p2 p3 p4 p5 p6 p7 : FVec Ideal S512x256 .bf16)
    (u8 v8 u9 v9 u10 v10 : Vec Ideal S1024x256 .bf16) (d : Vec Ideal S2816x1024 .bf16) (r : Fin 512) (q : Fin 1024) (f : Fin 2816 → EReal)
    (h0 : ∀ q : Fin 256, p0 (ix2 r q) = f ⟨0 + q.val, by omega⟩)
    (h1 : ∀ q : Fin 256, p1 (ix2 r q) = f ⟨256 + q.val, by omega⟩)
    (h2 : ∀ q : Fin 256, p2 (ix2 r q) = f ⟨512 + q.val, by omega⟩)
    (h3 : ∀ q : Fin 256, p3 (ix2 r q) = f ⟨768 + q.val, by omega⟩)
    (h4 : ∀ q : Fin 256, p4 (ix2 r q) = f ⟨1024 + q.val, by omega⟩)
    (h5 : ∀ q : Fin 256, p5 (ix2 r q) = f ⟨1280 + q.val, by omega⟩)
    (h6 : ∀ q : Fin 256, p6 (ix2 r q) = f ⟨1536 + q.val, by omega⟩)
    (h7 : ∀ q : Fin 256, p7 (ix2 r q) = f ⟨1792 + q.val, by omega⟩)
    (h8 : ∀ q : Fin 256, chunk h u8 v8 (ix2 r q) = f ⟨2048 + q.val, by omega⟩)
    (h9 : ∀ q : Fin 256, chunk h u9 v9 (ix2 r q) = f ⟨2304 + q.val, by omega⟩)
    (h10 : ∀ q : Fin 256, chunk h u10 v10 (ix2 r q) = f ⟨2560 + q.val, by omega⟩) :
    k0_pay25 y h p0 p1 p2 p3 p4 p5 p6 p7 (k0_pay24 h u8) v8 u9 v9 u10 v10 d (ix2 r q) = y (ix2 r q) + dot f fun k => d (ix2 k q) := by
  refine (down_at y (concatenate S512x2816 1 [⟨S512x256, p0⟩, ⟨S512x256, p1⟩, ⟨S512x256, p2⟩, ⟨S512x256, p3⟩, ⟨S512x256, p4⟩, ⟨S512x256, p5⟩, ⟨S512x256, p6⟩, ⟨S512x256, p7⟩, ⟨S512x256, chunk h u8 v8⟩, ⟨S512x256, chunk h u9 v9⟩, ⟨S512x256, chunk h u10 v10⟩]
    concatenates_S512x256_S512x256_S512x256_S512x256_S512x256_S512x256_S512x256_S512x256_S512x256_S512x256_S512x256_S512x2816_d1)
    d r q).trans ?_
  exact congrArg (y (ix2 r q) + ·) (congrArg₂ dot (funext fun k => cat11 _ _ _ _ _ _ _ _ _ _ _ _ f r h0 h1 h2 h3 h4 h5 h6 h7 h8 h9 h10 k) rfl)

/-- The reciprocal root mean square of each row, as a column. -/
def rootCol (y : FVec Ideal S512x1024 .f32) : FVec Ideal S512x1 .f32 :=
  rsqrt (addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x358637BD#32)))

/-- The stored rows: the rows fed forward, normed. -/
theorem last_at (y : FVec Ideal S512x1024 .f32) (g : Vec Ideal S1x1024 .f32) (r : Fin 512) (q : Fin 1024) :
    k0_pay1 y (rootCol y) g (ix2 r q) = normed (fun k => y (ix2 r k)) (fun k => g (ix2 0 k)) q := by
  pointwise [k0_pay1, rootCol, normed, rootMs]

/-- The block: each row with its combined attention's output projected and added, fed forward and normed. -/
theorem block13 (x0 : Vec Ideal S512x1024 .f32) (x1 x2 x3 : Vec Ideal S512x1024 .bf16) (x4 x5 x6 : Vec Ideal S512x16 .f32)
    (x7 : Vec Ideal S16x1024 .bf16) (x8 : Vec Ideal S1024x1024 .bf16) (x9 : Vec Ideal S1x1024 .f32) (x10 : Vec Ideal S1024x5632 .bf16)
    (x11 : Vec Ideal S2816x1024 .bf16) (x12 : Vec Ideal S1x1024 .f32) (y : S512x1024.Idx)
    (he : ∀ (h : Fin 16) (k : Fin 1024), x7 (ix2 h k) = if h = ⟨k.val / 64, by omega⟩ then 1 else 0) :
    out0_13 x0 x1 x2 x3 x4 x5 x6 x7 x8 x9 x10 x11 x12 y
      = normed (fed (mixed (fun k => x0 (ix2 (y 0) k)) (combined ![fun k => x1 (ix2 (y 0) k), fun k => x2 (ix2 (y 0) k), fun k => x3 (ix2 (y 0) k)]
            ![fun h => x4 (ix2 (y 0) h), fun h => x5 (ix2 (y 0) h), fun h => x6 (ix2 (y 0) h)])
            (fun k q => x8 (ix2 k q)))
          (fun k => x9 (ix2 0 k)) (fun k q => x10 (ix2 k q)) (fun k q => x11 (ix2 k q))) (fun k => x12 (ix2 0 k)) (y 1) := by
  unfold_out out0_13
  canon_tiles x h
  have e0 : View.ld x0 r0_2 = x0 := View.ld_unit_lit _ _ (by decide)
  have e1 : View.ld x1 r0_2 = x1 := View.ld_unit_lit _ _ (by decide)
  have e2 : View.ld x2 r0_2 = x2 := View.ld_unit_lit _ _ (by decide)
  have e3 : View.ld x3 r0_2 = x3 := View.ld_unit_lit _ _ (by decide)
  have e4 : View.ld x4 r0_0 = x4 := View.ld_unit_lit _ _ (by decide)
  have e5 : View.ld x5 r0_0 = x5 := View.ld_unit_lit _ _ (by decide)
  have e6 : View.ld x6 r0_0 = x6 := View.ld_unit_lit _ _ (by decide)
  have e7 : View.ld x7 r0_1 = x7 := View.ld_unit_lit _ _ (by decide)
  have e8 : View.ld x8 r0_3 = x8 := View.ld_unit_lit _ _ (by decide)
  have e9 : View.ld x9 r0_4 = x9 := View.ld_unit_lit _ _ (by decide)
  have e11 : View.ld x11 r0_27 = x11 := View.ld_unit_lit _ _ (by decide)
  have e12 : View.ld x12 r0_4 = x12 := View.ld_unit_lit _ _ (by decide)
  rw [e0, e1, e2, e3, e4, e5, e6, e7, e8, e9, e11, e12]
  obtain rfl : y = x := funext fun a => by
    fin_cases a
    · exact Fin.ext h0
    · exact Fin.ext h1
  clear h0 h1 x0_lt x1_lt e0 e1 e2 e3 e4 e5 e6 e7 e8 e9 e11 e12
  have hy : (fun k => k0_pay11 (k0_pay7 x7) (k0_pay8 x4 x5 x6 x7 x1 x2) (k0_pay9 x4 x5 x6) (k0_pay10 x4 x5 x6) x3 x0 x8 (ix2 (y 0) k))
      = mixed (fun k => x0 (ix2 (y 0) k)) (combined ![fun k => x1 (ix2 (y 0) k), fun k => x2 (ix2 (y 0) k), fun k => x3 (ix2 (y 0) k)]
            ![fun h => x4 (ix2 (y 0) h), fun h => x5 (ix2 (y 0) h), fun h => x6 (ix2 (y 0) h)])
            (fun k q => x8 (ix2 k q)) :=
    funext fun k => mixed_at _ _ _ _ _ _ _ _ _ _ _ he
  have hn : (fun k => k0_pay12 (k0_pay7 x7) (k0_pay8 x4 x5 x6 x7 x1 x2) (k0_pay9 x4 x5 x6) (k0_pay10 x4 x5 x6) x3 x0 x8 x9 (ix2 (y 0) k))
      = normed (mixed (fun k => x0 (ix2 (y 0) k)) (combined ![fun k => x1 (ix2 (y 0) k), fun k => x2 (ix2 (y 0) k), fun k => x3 (ix2 (y 0) k)]
            ![fun h => x4 (ix2 (y 0) h), fun h => x5 (ix2 (y 0) h), fun h => x6 (ix2 (y 0) h)])
            (fun k q => x8 (ix2 k q))) (fun k => x9 (ix2 0 k)) :=
    (funext fun k => pay12_at _ _ _ _ _ _ _ _ _ _).trans (congrArg (normed · _) hy)
  unfold fed
  rw [← hn]
  have e : y = ix2 (y 0) (y 1) := by funext a; fin_cases a <;> rfl
  refine (congrArg _ e).trans ((last_at _ _ (y 0) (y 1)).trans (congrFun (congrArg₂ normed (funext fun j => ?_) rfl) (y 1)))
  refine (pay25_at _ _ _ _ _ _ _ _ _ _ _ _ _ _ _ _ _ (y 0) j _ ?_ ?_ ?_ ?_ ?_ ?_ ?_ ?_ ?_ ?_ ?_).trans
    (congrArg (· + _) (congrFun hy j))
  all_goals intro q
  · refine (pay14_at _ _ _ _ _ _ _ _ _ _ _ _).trans (congrArg₂ glu (congrArg₂ dot rfl (funext fun k => ?_)) (congrArg₂ dot rfl (funext fun k => ?_))) <;> exact upChunk _ _ _ _ _ _ (by dsimp only <;> omega)
  · refine (pay15_at _ _ _ _ _).trans (congrArg₂ glu (congrArg₂ dot rfl (funext fun k => ?_)) (congrArg₂ dot rfl (funext fun k => ?_))) <;> exact upChunk _ _ _ _ _ _ (by dsimp only <;> omega)
  · refine (pay16_at _ _ _ _ _).trans (congrArg₂ glu (congrArg₂ dot rfl (funext fun k => ?_)) (congrArg₂ dot rfl (funext fun k => ?_))) <;> exact upChunk _ _ _ _ _ _ (by dsimp only <;> omega)
  · refine (pay17_at _ _ _ _ _).trans (congrArg₂ glu (congrArg₂ dot rfl (funext fun k => ?_)) (congrArg₂ dot rfl (funext fun k => ?_))) <;> exact upChunk _ _ _ _ _ _ (by dsimp only <;> omega)
  · refine (pay20_at _ _ _ _ _).trans (congrArg₂ glu (congrArg₂ dot rfl (funext fun k => ?_)) (congrArg₂ dot rfl (funext fun k => ?_))) <;> exact upChunk _ _ _ _ _ _ (by dsimp only <;> omega)
  · refine (pay21_at _ _ _ _ _).trans (congrArg₂ glu (congrArg₂ dot rfl (funext fun k => ?_)) (congrArg₂ dot rfl (funext fun k => ?_))) <;> exact upChunk _ _ _ _ _ _ (by dsimp only <;> omega)
  · refine (pay22_at _ _ _ _ _).trans (congrArg₂ glu (congrArg₂ dot rfl (funext fun k => ?_)) (congrArg₂ dot rfl (funext fun k => ?_))) <;> exact upChunk _ _ _ _ _ _ (by dsimp only <;> omega)
  · refine (pay23_at _ _ _ _ _).trans (congrArg₂ glu (congrArg₂ dot rfl (funext fun k => ?_)) (congrArg₂ dot rfl (funext fun k => ?_))) <;> exact upChunk _ _ _ _ _ _ (by dsimp only <;> omega)
  · refine (chunk_at _ _ _ _ _).trans (congrArg₂ glu (congrArg₂ dot rfl (funext fun k => ?_)) (congrArg₂ dot rfl (funext fun k => ?_))) <;> exact upChunk _ _ _ _ _ _ (by dsimp only <;> omega)
  · refine (chunk_at _ _ _ _ _).trans (congrArg₂ glu (congrArg₂ dot rfl (funext fun k => ?_)) (congrArg₂ dot rfl (funext fun k => ?_))) <;> exact upChunk _ _ _ _ _ _ (by dsimp only <;> omega)
  · refine (chunk_at _ _ _ _ _).trans (congrArg₂ glu (congrArg₂ dot rfl (funext fun k => ?_)) (congrArg₂ dot rfl (funext fun k => ?_))) <;> exact upChunk _ _ _ _ _ _ (by dsimp only <;> omega)

end Cert.FinalIdeal.Mine
-- ==== Proof.Spread.lean ====
module

public import proofs.«01_k».proof.Proof.Gen.FinalIdeal.Frame
public import proofs.«01_k».proof.Proof.Combine

@[expose] public section

set_option maxRecDepth 16384

noncomputable section

/-! The matrix that spreads a head's weight over its columns. -/

namespace Cert.FinalIdeal.Mine

open Cert.FinalIdeal Cert.FinalIdeal.Gen Idealize.ShloMosaic Idealize.ShloMosaic.TcCoe Idealize.SL.Sem Cert.Layer
open Idealize.ShloMosaic.Pipeline (Dat)

/-- The head each of the 1024 columns belongs to, as the host computes it. -/
def heads : Vec Ideal S1x1024 .i32 :=
  select (andi (cmpi .ne (signi (broadcastInDim S1x1024 ![1] bcast_S1024_S1x1024_1 (iotaInDim S1024 32 0)))
        (broadcastInDim S1x1024 ![] bcast_S_S1x1024 (signi (constantI S_ 32 64#32))))
      (cmpi .ne (Host.remsi (broadcastInDim S1x1024 ![1] bcast_S1024_S1x1024_1 (iotaInDim S1024 32 0))
        (broadcastInDim S1x1024 ![] bcast_S_S1x1024 (constantI S_ 32 64#32)))
        (broadcastInDim S1x1024 ![] bcast_S_S1x1024 (constantI S_ 32 0#32))))
    (subi (Host.divsi (broadcastInDim S1x1024 ![1] bcast_S1024_S1x1024_1 (iotaInDim S1024 32 0))
        (broadcastInDim S1x1024 ![] bcast_S_S1x1024 (constantI S_ 32 64#32)))
      (broadcastInDim S1x1024 ![] bcast_S_S1x1024 (constantI S_ 32 1#32)))
    (Host.divsi (broadcastInDim S1x1024 ![1] bcast_S1024_S1x1024_1 (iotaInDim S1024 32 0))
      (broadcastInDim S1x1024 ![] bcast_S_S1x1024 (constantI S_ 32 64#32)))

/-- It is the column's number over 64. -/
theorem heads_at (k : Fin 1024) : heads (ix2 0 k) = BitVec.ofNat 32 (k.val / 64) := by
  have h : ∀ k : Fin 1024, heads (ix2 0 k) = BitVec.ofNat 32 (k.val / 64) := by decide +kernel
  exact h k

/-- The matrix's entries, over any row of heads. -/
theorem oneHot_at (H : Vec Ideal S1x1024 .i32) (h : Fin 16) (k : Fin 1024) (n : ℕ) (hn : n < 16) (e : H (ix2 0 k) = BitVec.ofNat 32 n) :
    (uitofp .bf16 (cmpi .eq (broadcastInDim S16x1024 ![0, 1] bcast_S1x1024_S16x1024_0_1 H)
      (broadcastInDim S16x1024 ![0, 1] bcast_S16x1_S16x1024_0_1 (broadcastInDim S16x1 ![0] bcast_S16_S16x1_0 (iotaInDim S16 32 0))))
        : FVec Ideal S16x1024 .bf16) (ix2 h k)
      = if h = ⟨n, hn⟩ then 1 else 0 := by
  pointwise
  rw [e]
  exact (by decide +kernel : ∀ h n : Fin 16, IntOp.cmpi CmpIPredicate.eq (BitVec.ofNat 32 n.val) (BitVec.ofNat 32 h.val) = if h = n then 1#1 else 0#1) h ⟨n, hn⟩ ▸ by
    split <;> simp [FloatOps.uitofp]

end Cert.FinalIdeal.Mine
-- ==== Proof.FinalArray.lean ====
module

public import proofs.«01_k».proof.Proof.FinalBlock
public import proofs.«01_k».proof.Proof.Spread
public import proofs.«01_k».proof.Proof.Spread

@[expose] public section

set_option maxRecDepth 16384

noncomputable section

/-! What the result array of the last layer's output and feed-forward call holds after the run. -/

namespace Cert.FinalIdeal.Mine

open Cert.FinalIdeal Cert.FinalIdeal.Gen Idealize.ShloMosaic Idealize.ShloMosaic.TcCoe Idealize.SL.Sem Cert.Layer
open Idealize.ShloMosaic.Pipeline (Dat)

variable (m : (ℓ : Loc nD τ sig) → Buf (Elt Ideal) ℓ)

/-- The block index of every window at every grid point. -/
theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, _)

/-- The layer's output: each row with its combined attention's output projected and added, fed forward and normed. -/
def rowsOut (X : FVec Ideal S65536x1024 .f32) (A0 A1 A2 : FVec Ideal S65536x1024 .bf16) (L0 L1 L2 : FVec Ideal S65536x16 .f32)
    (O : FVec Ideal S1x1024x1024 .f32) (G : FVec Ideal S2x1024 .f32) (W : FVec Ideal S2x1024x5632 .f32)
    (D : FVec Ideal S2x2816x1024 .f32) (Z : FVec Ideal S1024 .f32) : FVec Ideal S65536x1024 .f32 :=
  fun i => normed (fed (mixed (fun k => X (ix2 (i 0) k))
      (combined ![fun k => A0 (ix2 (i 0) k), fun k => A1 (ix2 (i 0) k), fun k => A2 (ix2 (i 0) k)]
        ![fun h => L0 (ix2 (i 0) h), fun h => L1 (ix2 (i 0) h), fun h => L2 (ix2 (i 0) h)])
      (fun k q => O (ix3 0 k q)))
    (fun k => G (ix2 1 k)) (fun k q => W (ix3 1 k q)) (fun k q => D (ix3 1 k q))) (fun k => Z (ix1 k)) (i 1)

/-- The block of rows at a grid point, read off the argument. -/
theorem rows (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  blk_ext [iblk, V, idx_val t]

/-- The block of the first call's rows at a grid point, read off the argument. -/
theorem attn0 (c : Dev nD) (t : Fin cfg0.N) (r : Fin 512) (k : Fin 1024) (R : Fin 65536) (hR : R.val = t.val * 512 + r.val) :
    iblk m c 1 t (ix2 r k) = m ((c : Thread nD τ).loc main_arg1) (ix2 R k) := by
  blk_ext [iblk, V, idx_val t]

/-- The block of the second call's rows at a grid point, read off the argument. -/
theorem attn1 (c : Dev nD) (t : Fin cfg0.N) (r : Fin 512) (k : Fin 1024) (R : Fin 65536) (hR : R.val = t.val * 512 + r.val) :
    iblk m c 2 t (ix2 r k) = m ((c : Thread nD τ).loc main_arg2) (ix2 R k) := by
  blk_ext [iblk, V, idx_val t]

/-- The block of the third call's rows at a grid point, read off the argument. -/
theorem attn2 (c : Dev nD) (t : Fin cfg0.N) (r : Fin 512) (k : Fin 1024) (R : Fin 65536) (hR : R.val = t.val * 512 + r.val) :
    iblk m c 3 t (ix2 r k) = m ((c : Thread nD τ).loc main_arg3) (ix2 R k) := by
  blk_ext [iblk, V, idx_val t]

/-- The block of the first call's log-sum-exps at a grid point, read off the argument. -/
theorem lse0 (c : Dev nD) (t : Fin cfg0.N) (r : Fin 512) (k : Fin 16) (R : Fin 65536) (hR : R.val = t.val * 512 + r.val) :
    iblk m c 4 t (ix2 r k) = m ((c : Thread nD τ).loc main_arg4) (ix2 R k) := by
  blk_ext [iblk, V, idx_val t]

/-- The block of the second call's log-sum-exps at a grid point, read off the argument. -/
theorem lse1 (c : Dev nD) (t : Fin cfg0.N) (r : Fin 512) (k : Fin 16) (R : Fin 65536) (hR : R.val = t.val * 512 + r.val) :
    iblk m c 5 t (ix2 r k) = m ((c : Thread nD τ).loc main_arg5) (ix2 R k) := by
  blk_ext [iblk, V, idx_val t]

/-- The block of the third call's log-sum-exps at a grid point, read off the argument. -/
theorem lse2 (c : Dev nD) (t : Fin cfg0.N) (r : Fin 512) (k : Fin 16) (R : Fin 65536) (hR : R.val = t.val * 512 + r.val) :
    iblk m c 6 t (ix2 r k) = m ((c : Thread nD τ).loc main_arg6) (ix2 R k) := by
  blk_ext [iblk, V, idx_val t]

/-- The matrix that spreads a head's weight over its 64 columns. -/
theorem spreadMatrix (c : Dev nD) (t : Fin cfg0.N) (h : Fin 16) (k : Fin 1024) :
    iblk m c 7 t (ix2 h k) = if h = ⟨k.val / 64, by omega⟩ then (1 : EReal) else 0 := by
  have e : iblk m c 7 t (ix2 h k) = V m c main_v8 (ix2 h k) := by blk_ext [iblk, idx_val t]
  rw [e]
  simp only [V, hostOps0, hostOps0_1, hostOps0_2, List.flatten_cons, List.flatten_nil, List.append_nil, List.cons_append, List.nil_append]
  after_results
  exact oneHot_at heads h k (k.val / 64) (by omega) (heads_at k)

/-- The output projection's matrix. -/
theorem outMatrix (c : Dev nD) (t : Fin cfg0.N) (k : Fin 1024) (q : Fin 1024) :
    iblk m c 8 t (ix2 k q) = m ((c : Thread nD τ).loc main_arg7) (ix3 0 k q) := by
  have e : iblk m c 8 t (ix2 k q) = V m c main_v10 (ix2 k q) := by blk_ext [iblk, idx_val t]
  rw [e]
  simp only [V, hostOps0, hostOps0_1, hostOps0_2, List.flatten_cons, List.flatten_nil, List.append_nil, List.cons_append, List.nil_append]
  after_results
  pointwise

/-- The gain is the second row of the gains. -/
theorem gain (c : Dev nD) (t : Fin cfg0.N) (k : Fin 1) (q : Fin 1024) :
    iblk m c 9 t (ix2 k q) = m ((c : Thread nD τ).loc main_arg8) (ix2 1 q) := by
  have e : iblk m c 9 t (ix2 k q) = V m c main_v11 (ix2 k q) := by blk_ext [iblk, idx_val t]
  rw [e]
  simp only [V, hostOps0, hostOps0_1, hostOps0_2, List.flatten_cons, List.flatten_nil, List.append_nil, List.cons_append, List.nil_append]
  after_results
  pointwise

/-- The up projection's matrix is the second one. -/
theorem upMatrix (c : Dev nD) (t : Fin cfg0.N) (k : Fin 1024) (q : Fin 5632) :
    iblk m c 10 t (ix2 k q) = m ((c : Thread nD τ).loc main_arg9) (ix3 1 k q) := by
  have e : iblk m c 10 t (ix2 k q) = V m c main_v14 (ix2 k q) := by blk_ext [iblk, idx_val t]
  rw [e]
  simp only [V, hostOps0, hostOps0_1, hostOps0_2, List.flatten_cons, List.flatten_nil, List.append_nil, List.cons_append, List.nil_append]
  after_results
  pointwise

/-- The down projection's matrix is the second one. -/
theorem downMatrix (c : Dev nD) (t : Fin cfg0.N) (k : Fin 2816) (q : Fin 1024) :
    iblk m c 11 t (ix2 k q) = m ((c : Thread nD τ).loc main_arg10) (ix3 1 k q) := by
  have e : iblk m c 11 t (ix2 k q) = V m c main_v17 (ix2 k q) := by blk_ext [iblk, idx_val t]
  rw [e]
  simp only [V, hostOps0, hostOps0_1, hostOps0_2, List.flatten_cons, List.flatten_nil, List.append_nil, List.cons_append, List.nil_append]
  after_results
  pointwise

/-- The last gain. -/
theorem lastGain (c : Dev nD) (t : Fin cfg0.N) (k : Fin 1) (q : Fin 1024) :
    iblk m c 12 t (ix2 k q) = m ((c : Thread nD τ).loc main_arg11) (ix1 q) := by
  have e : iblk m c 12 t (ix2 k q) = V m c main_v18 (ix2 k q) := by blk_ext [iblk, idx_val t]
  rw [e]
  simp only [V, hostOps0, hostOps0_1, hostOps0_2, List.flatten_cons, List.flatten_nil, List.append_nil, List.cons_append, List.nil_append]
  after_results
  pointwise

/-- What a grid point stores is its part of `rowsOut`. -/
theorem point13 (c : Dev nD) (t : Fin cfg0.N) (y) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = rowsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (((cfg0.win 13).blk t).view.emb y) := by
  refine (block13 _ _ _ _ _ _ _ _ _ _ _ _ _ _ fun h k => spreadMatrix m c t h k).trans ?_
  unfold rowsOut
  have hq : y 1 = (((cfg0.win 13).blk t).view.emb y) 1 := Fin.ext (by blk_simp [idx_val t])
  refine (congrArg _ hq).trans (congrFun ?_ _)
  have hr : ((((cfg0.win 13).blk t).view.emb y) 0 : Fin 65536).val = t.val * 512 + (y 0).val := by blk_simp [idx_val t]
  rw [funext fun k => rows m c t (y 0) k _ hr,
    funext fun k => attn0 m c t (y 0) k _ hr, funext fun k => attn1 m c t (y 0) k _ hr, funext fun k => attn2 m c t (y 0) k _ hr,
    funext fun k => lse0 m c t (y 0) k _ hr, funext fun k => lse1 m c t (y 0) k _ hr, funext fun k => lse2 m c t (y 0) k _ hr,
    funext fun k => funext fun q => outMatrix m c t k q, funext fun k => gain m c t 0 k,
    funext fun k => funext fun q => upMatrix m c t k q, funext fun k => funext fun q => downMatrix m c t k q,
    funext fun k => lastGain m c t 0 k]

/-- After the run the result array is `rowsOut` of the arguments. -/
theorem final13 (c : Dev nD) : (dats m 0 c).arrAt 13 (cfgs 0).N
    = rowsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  exact point13 m c t y

end Cert.FinalIdeal.Mine
-- ==== Proof.FinalRef.lean ====
module

public import proofs.«01_k».proof.Proof.FinalRefA
public import proofs.«01_k».proof.Proof.FinalArray

@[expose] public section

set_option maxRecDepth 16384

noncomputable section

/-! The reference of the last layer's output part ends with the same array as the kernel. -/

namespace Cert.FinalRefIdeal.Mine

open Cert.FinalRefIdeal Cert.FinalRefIdeal.Gen Idealize.ShloMosaic Idealize.ShloMosaic.TcCoe Idealize.SL.Sem Cert.Layer
open Cert.FinalIdeal.Mine (rowsOut)

variable (m : (ℓ : Loc nD τ sig) → Buf (Elt Ideal) ℓ) (ρ : Dev nD → PrngReg)

/-- The rows before the feed-forward part. -/
theorem value32 (V0 : Valuation τ sig (Elt Ideal)) :
    Value.res_main_v32 V0 = projected (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold Value.res_main_v32 Value.res_main_v19 Value.res_main_v12 projected mixture outs weights parts tops tops0 lses
  rfl

/-- The rows after the feed-forward part. -/
theorem value58_at (V0 : Valuation τ sig (Elt Ideal)) (r : Fin 65536) (q : Fin 1024) :
    Value.res_main_v58 V0 (ix2 r q)
      = fed (fun k => Value.res_main_v32 V0 (ix2 r k)) (fun k => (V0 (Proc.devRef .tc main_arg8) : FVec Ideal S2x1024 .f32) (ix2 1 k))
          (fun k q => (V0 (Proc.devRef .tc main_arg9) : FVec Ideal S2x1024x5632 .f32) (ix3 1 k q))
          (fun k q => (V0 (Proc.devRef .tc main_arg10) : FVec Ideal S2x2816x1024 .f32) (ix3 1 k q)) q := by
  unfold Value.res_main_v58 Value.res_main_v53 Value.res_main_v52
  generalize Value.res_main_v32 V0 = Y, V0 (Proc.devRef .tc main_arg8) = G, V0 (Proc.devRef .tc main_arg9) = W,
    V0 (Proc.devRef .tc main_arg10) = D
  refine (ffn_at Y _ _ _ _ _).trans ?_
  unfold fed
  refine congrArg₂ (· + ·) rfl (congrArg₂ dot (congrArg₂ Layer.hidden (funext fun k => (ref_normed Y _ _ k).trans ?_)
    (funext fun k => funext fun q => upMatrix_at W k q)) (funext fun k => downMatrix_at D k _))
  exact congrFun (congrArg₂ normed rfl (funext fun k => gain_at G k)) k

/-- The reference ends with `rowsOut` of its arguments. -/
theorem run : θ_run defs (onTc (τ := τ) (main (F := Ideal))) ⟨m, fun _ => 0, ρ⟩ fun r => ∀ c : Dev nD,
      r.2.mem ((c.tc : Thread nD τ).loc main_v71) = rowsOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans ?_, (h c).2⟩) (Value.run m ρ)
  funext i
  idx_vars i
  refine (ref_normed _ _ _ _).trans ?_
  unfold rowsOut
  refine congrFun (congrArg₂ normed (funext fun k => (value58_at _ _ k).trans ?_) rfl) _
  refine congrFun (congrFun (congrFun (congrFun (congrArg fed (funext fun j => ?_)) _) _) _) k
  rw [value32]
  exact projected_at _ _ _ _ _ _ _ _ _ j

end Cert.FinalRefIdeal.Mine
-- ==== Proof.FinalEq.lean ====
module

public import proofs.«01_k».proof.Defs
public import proofs.«01_k».proof.Proof.FinalRef

@[expose] public section

set_option maxRecDepth 16384

noncomputable section

/-! The last layer's output and feed-forward call computes what its reference does. -/

namespace Cert.FinalIdeal.Mine

open Idealize.ShloMosaic Idealize.ShloMosaic.TcCoe Idealize.SL.Sem

set_option maxHeartbeats 4000000 in
/-- Kernel and reference end with equal rows. -/
theorem equal : algebraic_FinalIdeal_FinalRefIdeal (hFinalIdeal := Cert.FinalIdeal.Gen.facts)
    (hFinalRefIdeal := Cert.FinalRefIdeal.Gen.facts) := by
  pair_intro
  · run_from Cert.FinalIdeal.Gen.frame m g & Cert.FinalIdeal.Gen.run_main m g
    · exact Gen.V_main_arg7 m c
    · exact Gen.V_main_arg8 m c
    · exact Gen.V_main_arg9 m c
    · exact Gen.V_main_arg10 m c
    · exact Gen.V_main_arg11 m c
  · run_from Cert.FinalRefIdeal.Mine.run m' g'
    · exact (final13 m c).symm

end Cert.FinalIdeal.Mine
-- ==== Proof.ProjBlock.lean ====
module

public import proofs.«01_k».proof.Proof.Gen.ProjIdeal.Frame
public import proofs.«01_k».proof.Proof.Spec

@[expose] public section

set_option maxRecDepth 16384

noncomputable section

/-! What one grid point of the first layer's projection call stores: its blocks of the four results. -/

namespace Cert.ProjIdeal.Mine

open Cert.ProjIdeal Cert.ProjIdeal.Gen Idealize.ShloMosaic Idealize.ShloMosaic.TcCoe Idealize.SL.Sem Cert.Layer

variable (x0 : Vec Ideal S512x1024 .f32) (x1 : Vec Ideal S1x1024 .f32) (x2 : Vec Ideal S1024x1024 .bf16)
  (x3 : Vec Ideal S1024x512 .bf16) (x4 : Vec Ideal S1024x1024 .bf16) (x5 : Vec Ideal S1024x128 .bf16)

/-- The block of queries: each normed row times the columns of the first matrix. -/
theorem block6 (y : S512x1024.Idx) : out0_6 x0 x1 x2 x3 x4 x5 y
    = dot (normed (fun k => x0 (ix2 (y 0) k)) (fun k => x1 (ix2 0 k))) (fun k => x2 (ix2 k (y 1))) := by
  unfold_out out0_6
  canon_tiles x h
  all_goals
    pointwise [k0_pay5, k0_pay6, k0_pay4, dot, normed, rootMs]
    blk_point []

/-- The block of the second result: each normed row times the columns of the second matrix. -/
theorem block7 (y : S512x512.Idx) : out0_7 x0 x1 x2 x3 x4 x5 y
    = dot (normed (fun k => x0 (ix2 (y 0) k)) (fun k => x1 (ix2 0 k))) (fun k => x3 (ix2 k (y 1))) := by
  unfold_out out0_7
  canon_tiles x h
  all_goals
    pointwise [k0_pay7, k0_pay4, dot, normed, rootMs]
    blk_point []

/-- The block of the third result: each normed row times the columns of the third matrix. -/
theorem block8 (y : S512x1024.Idx) : out0_8 x0 x1 x2 x3 x4 x5 y
    = dot (normed (fun k => x0 (ix2 (y 0) k)) (fun k => x1 (ix2 0 k))) (fun k => x4 (ix2 k (y 1))) := by
  unfold_out out0_8
  canon_tiles x h
  all_goals
    pointwise [k0_pay1, k0_pay2, k0_pay4, dot, normed, rootMs]
    blk_point []

/-- The block of the gates: each normed row times the columns of the last matrix. -/
theorem block9 (y : S512x128.Idx) : out0_9 x0 x1 x2 x3 x4 x5 y
    = dot (normed (fun k => x0 (ix2 (y 0) k)) (fun k => x1 (ix2 0 k))) (fun k => x5 (ix2 k (y 1))) := by
  unfold_out out0_9
  canon_tiles x h
  all_goals
    pointwise [k0_pay3, k0_pay4, dot, normed, rootMs]
    blk_point []

end Cert.ProjIdeal.Mine
-- ==== Proof.PadSpec.lean ====
module

public import Idealize.ShloMosaic.Lib.KernelVsHost
public import proofs.«01_k».proof.Proof.Spec

@[expose] public section

set_option maxRecDepth 16384

noncomputable section

/-! A matrix of 48 columns filled up with columns of zeros. -/

namespace Cert.Layer

open Idealize.ShloMosaic Idealize.ShloMosaic.TcCoe

/-- 48 columns filled up to 128 with zeros, read at a place: the matrix in the first 48 columns, zero in the others. -/
theorem padded {n : ℕ} (A : FVec Ideal ⟨2, ![n, 48]⟩ .f32)
    (h : Shape.Pads ⟨2, ![n, 48]⟩ ![0, 0] ![0, 80] ![0, 0] ⟨2, ![n, 128]⟩) (hu : 0 < (⟨0, ![]⟩ : Shape).numel) (k : Fin n) (q : Fin 128) :
    pad ⟨2, ![n, 128]⟩ ![0, 0] ![0, 80] ![0, 0] A (sitofp (F := Ideal) .f32 (constantI ⟨0, ![]⟩ 32 0#32)) h hu (ix2 k q)
      = if h : q.val < 48 then A (ix2 k ⟨q.val, h⟩) else (0 : EReal) := by
  by_cases hq : q.val < 48
  · rw [dif_pos hq]
    refine pad_apply_of_inside _ _ _ _ _ h hu _ (ix2 k ⟨q.val, hq⟩) fun a => ?_
    fin_cases a <;> simp [ix2]
  · rw [dif_neg hq]
    refine (pad_apply_of_not_inside _ _ _ _ _ h hu _ (1 : Fin 2) ?_).trans ?_
    · simp [ix2]; omega
    · show ((((0#32 : BitVec 32).toInt : ℝ)) : EReal) = 0
      simp

end Cert.Layer
-- ==== Proof.ProjArray.lean ====
module

public import proofs.«01_k».proof.Proof.ProjBlock
public import proofs.«01_k».proof.Proof.PadSpec
public import proofs.«01_k».proof.Proof.Spec

@[expose] public section

set_option maxRecDepth 16384

noncomputable section

/-! What the result arrays of the first layer's projection call hold after the run. -/

namespace Cert.ProjIdeal.Mine

open Cert.ProjIdeal Cert.ProjIdeal.Gen Idealize.ShloMosaic Idealize.ShloMosaic.TcCoe Idealize.SL.Sem Cert.Layer
open Idealize.ShloMosaic.Pipeline (Dat)

variable (m : (ℓ : Loc nD τ sig) → Buf (Elt Ideal) ℓ)

/-- The block index of every window at every grid point. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- A row, normed with the first mixing gain, times a column of the first layer's input matrix. -/
def proj (X : FVec Ideal S65536x1024 .f32) (G : FVec Ideal S2x1024 .f32) (W : FVec Ideal S1x1024x2608 .f32)
    (r : Fin 65536) (q : Fin 2608) : EReal :=
  dot (normed (fun k => X (ix2 r k)) (fun k => G (ix2 0 k))) (fun k => W (ix3 0 k q))

/-- The queries: the first 1024 columns, times `1/8`. -/
def queries (X : FVec Ideal S65536x1024 .f32) (G : FVec Ideal S2x1024 .f32) (W : FVec Ideal S1x1024x2608 .f32) :
    FVec Ideal S65536x1024 .bf16 := fun i => proj X G W (i 0) ⟨(i 1).val, by have : (i 1).val < 1024 := (i 1).isLt; omega⟩ * eighth

/-- The keys and values to be compressed: the next 512 columns. -/
def compressed (X : FVec Ideal S65536x1024 .f32) (G : FVec Ideal S2x1024 .f32) (W : FVec Ideal S1x1024x2608 .f32) :
    FVec Ideal S65536x512 .bf16 := fun i => proj X G W (i 0) ⟨1024 + (i 1).val, by have : (i 1).val < 512 := (i 1).isLt; omega⟩

/-- The keys and values of the selected blocks and of the window: the next 1024 columns. -/
def selected (X : FVec Ideal S65536x1024 .f32) (G : FVec Ideal S2x1024 .f32) (W : FVec Ideal S1x1024x2608 .f32) :
    FVec Ideal S65536x1024 .bf16 := fun i => proj X G W (i 0) ⟨1536 + (i 1).val, by have : (i 1).val < 1024 := (i 1).isLt; omega⟩

/-- The gates' logits: the last 48 columns, filled up with zeros. -/
def gates (X : FVec Ideal S65536x1024 .f32) (G : FVec Ideal S2x1024 .f32) (W : FVec Ideal S1x1024x2608 .f32) :
    FVec Ideal S65536x128 .f32 := fun i => if h : (i 1).val < 48 then proj X G W (i 0) ⟨2560 + (i 1).val, by omega⟩ else 0

/-- The block of rows at a grid point, read off the argument. -/
theorem rows (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  blk_ext [iblk, V, idx_val t]

/-- The gain is the first row of the mixing gains. -/
theorem gain (c : Dev nD) (t : Fin cfg0.N) (k : Fin 1024) :
    iblk m c 1 t (ix2 0 k) = m ((c : Thread nD τ).loc main_arg1) (ix2 0 k) := by
  have e : iblk m c 1 t (ix2 0 k) = V m c main_v12 (ix2 0 k) := by blk_ext [iblk, idx_val t]
  rw [e]
  simp only [V, hostOps0, hostOps0_1, hostOps0_2, List.flatten_cons, List.flatten_nil, List.append_nil, List.cons_append, List.nil_append]
  after_results
  pointwise

/-- The first matrix: the queries' columns times `1/8`. -/
theorem matrix2 (c : Dev nD) (t : Fin cfg0.N) (k : Fin 1024) (q : Fin 1024) (Q : Fin 2608) (hQ : Q.val = q.val) :
    iblk m c 2 t (ix2 k q) = (show EReal from m ((c : Thread nD τ).loc main_arg2) (ix3 0 k Q)) * eighth := by
  have e : iblk m c 2 t (ix2 k q) = V m c main_v4 (ix2 k q) := by blk_ext [iblk, idx_val t]
  have hq : Q = ⟨q.val, by omega⟩ := Fin.ext hQ
  rw [e, hq]
  simp only [V, hostOps0, hostOps0_1, hostOps0_2, List.flatten_cons, List.flatten_nil, List.append_nil, List.cons_append, List.nil_append]
  after_results
  pointwise [eighth]

/-- The second matrix: the columns of the keys and values to be compressed. -/
theorem matrix3 (c : Dev nD) (t : Fin cfg0.N) (k : Fin 1024) (q : Fin 512) (Q : Fin 2608) (hQ : Q.val = 1024 + q.val) :
    iblk m c 3 t (ix2 k q) = m ((c : Thread nD τ).loc main_arg2) (ix3 0 k Q) := by
  have e : iblk m c 3 t (ix2 k q) = V m c main_v6 (ix2 k q) := by blk_ext [iblk, idx_val t]
  have hq : Q = ⟨1024 + q.val, by omega⟩ := Fin.ext hQ
  rw [e, hq]
  simp only [V, hostOps0, hostOps0_1, hostOps0_2, List.flatten_cons, List.flatten_nil, List.append_nil, List.cons_append, List.nil_append]
  after_results
  pointwise

/-- The third matrix: the columns of the selected and the window's keys and values. -/
theorem matrix4 (c : Dev nD) (t : Fin cfg0.N) (k : Fin 1024) (q : Fin 1024) (Q : Fin 2608) (hQ : Q.val = 1536 + q.val) :
    iblk m c 4 t (ix2 k q) = m ((c : Thread nD τ).loc main_arg2) (ix3 0 k Q) := by
  have e : iblk m c 4 t (ix2 k q) = V m c main_v8 (ix2 k q) := by blk_ext [iblk, idx_val t]
  have hq : Q = ⟨1536 + q.val, by omega⟩ := Fin.ext hQ
  rw [e, hq]
  simp only [V, hostOps0, hostOps0_1, hostOps0_2, List.flatten_cons, List.flatten_nil, List.append_nil, List.cons_append, List.nil_append]
  after_results
  pointwise

/-- The gates' columns of the input matrix, filled up with zeros. -/
theorem gateCols (W : FVec Ideal S1x1024x2608 .f32) (k : Fin 1024) (q : Fin 128) :
    pad S1024x128 ![0, 0] ![0, 80] ![0, 0] (extractStridedSlice S1024x48 ![0, 2560] (shapeCast S1024x2608
      W shapeCasts_S1x1024x2608_S1024x2608) slices_S1024x2608_S1024x48_0_2560)
      (sitofp (F := Ideal) .f32 (constantI S_ 32 0#32)) pads_S1024x48_S1024x128_000_0800 h_S_ (ix2 k q)
      = if h : q.val < 48 then W (ix3 0 k ⟨2560 + q.val, by omega⟩) else (0 : EReal) := by
  refine (padded _ _ _ _ _).trans (dite_congr rfl (fun h => ?_) fun _ => rfl)
  pointwise

/-- The last matrix: the gates' columns, filled up with zeros. -/
theorem matrix5 (c : Dev nD) (t : Fin cfg0.N) (k : Fin 1024) (q : Fin 128) :
    iblk m c 5 t (ix2 k q) = if h : q.val < 48 then m ((c : Thread nD τ).loc main_arg2) (ix3 0 k ⟨2560 + q.val, by omega⟩)
      else (0 : EReal) := by
  have e : iblk m c 5 t (ix2 k q) = V m c main_v11 (ix2 k q) := by blk_ext [iblk, idx_val t]
  rw [e]
  simp only [V, hostOps0, hostOps0_1, hostOps0_2, List.flatten_cons, List.flatten_nil, List.append_nil, List.cons_append, List.nil_append]
  after_results
  exact gateCols _ _ _

/-- What a grid point stores of result 6 is its part of `queries`. -/
theorem point6 (c : Dev nD) (t : Fin cfg0.N) (y) :
    out0_6 (iblk m c 0 t) (iblk m c 1 t) (iblk m c 2 t) (iblk m c 3 t) (iblk m c 4 t) (iblk m c 5 t) y
      = queries (m ((c : Thread nD τ).loc main_arg0)) (m ((c : Thread nD τ).loc main_arg1))
          (m ((c : Thread nD τ).loc main_arg2)) (((cfg0.win 6).blk t).view.emb y) := by
  refine (block6 _ _ _ _ _ _ _).trans ?_
  unfold queries proj
  rw [← dot_eighth]
  refine congrArg₂ dot (congrArg₂ normed (funext fun k => rows m c t _ k _ ?_) (funext fun k => gain m c t k))
    (funext fun k => matrix2 m c t k _ _ ?_) <;> blk_simp [idx_val t]

/-- What a grid point stores of result 7 is its part of `compressed`. -/
theorem point7 (c : Dev nD) (t : Fin cfg0.N) (y) :
    out0_7 (iblk m c 0 t) (iblk m c 1 t) (iblk m c 2 t) (iblk m c 3 t) (iblk m c 4 t) (iblk m c 5 t) y
      = compressed (m ((c : Thread nD τ).loc main_arg0)) (m ((c : Thread nD τ).loc main_arg1))
          (m ((c : Thread nD τ).loc main_arg2)) (((cfg0.win 7).blk t).view.emb y) := by
  refine (block7 _ _ _ _ _ _ _).trans ?_
  unfold compressed proj
  refine congrArg₂ dot (congrArg₂ normed (funext fun k => rows m c t _ k _ ?_) (funext fun k => gain m c t k))
    (funext fun k => matrix3 m c t k _ _ ?_) <;> blk_simp [idx_val t]

/-- What a grid point stores of result 8 is its part of `selected`. -/
theorem point8 (c : Dev nD) (t : Fin cfg0.N) (y) :
    out0_8 (iblk m c 0 t) (iblk m c 1 t) (iblk m c 2 t) (iblk m c 3 t) (iblk m c 4 t) (iblk m c 5 t) y
      = selected (m ((c : Thread nD τ).loc main_arg0)) (m ((c : Thread nD τ).loc main_arg1))
          (m ((c : Thread nD τ).loc main_arg2)) (((cfg0.win 8).blk t).view.emb y) := by
  refine (block8 _ _ _ _ _ _ _).trans ?_
  unfold selected proj
  refine congrArg₂ dot (congrArg₂ normed (funext fun k => rows m c t _ k _ ?_) (funext fun k => gain m c t k))
    (funext fun k => matrix4 m c t k _ _ ?_) <;> blk_simp [idx_val t]

/-- What a grid point stores of the gates is its part of `gates`. -/
theorem point9 (c : Dev nD) (t : Fin cfg0.N) (y) :
    out0_9 (iblk m c 0 t) (iblk m c 1 t) (iblk m c 2 t) (iblk m c 3 t) (iblk m c 4 t) (iblk m c 5 t) y
      = gates (m ((c : Thread nD τ).loc main_arg0)) (m ((c : Thread nD τ).loc main_arg1))
          (m ((c : Thread nD τ).loc main_arg2)) (((cfg0.win 9).blk t).view.emb y) := by
  refine (block9 _ _ _ _ _ _ _).trans ?_
  unfold gates proj
  have e : ((((cfg0.win 9).blk t).view.emb y) 1).val = (y 1).val := by blk_simp [idx_val t]
  by_cases h : (y 1).val < 48
  · rw [dif_pos (by rw [e]; exact h)]
    refine congrArg₂ dot (congrArg₂ normed (funext fun k => rows m c t _ k _ ?_) (funext fun k => gain m c t k))
      (funext fun k => (matrix5 m c t k _).trans ((dif_pos h).trans ?_))
    · blk_simp [idx_val t]
    · refine congrArg (fun q => m ((c : Thread nD τ).loc main_arg2) (ix3 0 k q)) (Fin.ext ?_)
      blk_simp [idx_val t]
  · rw [dif_neg (by rw [e]; exact h)]
    refine Finset.sum_eq_zero fun k _ => ?_
    exact (congrArg (_ * ·) ((matrix5 m c t k _).trans (dif_neg h))).trans (mul_zero _)

/-- After the run result 6 is `queries` of the arguments. -/
theorem final6 (c : Dev nD) : (dats m 0 c).arrAt 6 (cfgs 0).N
    = queries (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]
  exact point6 m c t y

/-- After the run result 7 is `compressed` of the arguments. -/
theorem final7 (c : Dev nD) : (dats m 0 c).arrAt 7 (cfgs 0).N
    = compressed (m ((c : Thread nD τ).loc main_arg0)) (m ((c : Thread nD τ).loc main_arg1))
          (m ((c : Thread nD τ).loc main_arg2)) := by
  refine (dats m 0 c).arrAt_eq_of_covers 7 _ (by decide +kernel) fun t _ y => ?_
  blk_simp
  rw [after0_7]
  exact point7 m c t y

/-- After the run result 8 is `selected` of the arguments. -/
theorem final8 (c : Dev nD) : (dats m 0 c).arrAt 8 (cfgs 0).N
    = selected (m ((c : Thread nD τ).loc main_arg0)) (m ((c : Thread nD τ).loc main_arg1))
          (m ((c : Thread nD τ).loc main_arg2)) := by
  refine (dats m 0 c).arrAt_eq_of_covers 8 _ (by decide +kernel) fun t _ y => ?_
  blk_simp
  rw [after0_8]
  exact point8 m c t y

/-- After the run result 9 is `gates` of the arguments. -/
theorem final9 (c : Dev nD) : (dats m 0 c).arrAt 9 (cfgs 0).N
    = gates (m ((c : Thread nD τ).loc main_arg0)) (m ((c : Thread nD τ).loc main_arg1))
          (m ((c : Thread nD τ).loc main_arg2)) := by
  refine (dats m 0 c).arrAt_eq_of_covers 9 _ (by decide +kernel) fun t _ y => ?_
  blk_simp
  rw [after0_9]
  exact point9 m c t y

end Cert.ProjIdeal.Mine
-- ==== Proof.ProjRef.lean ====
module

public import proofs.«01_k».proof.Proof.Gen.ProjRefIdeal.Run
public import proofs.«01_k».proof.Proof.ProjArray
public import proofs.«01_k».proof.Proof.RefNorm
public import proofs.«01_k».proof.Proof.Spec

@[expose] public section

set_option maxRecDepth 16384

noncomputable section

/-! What the reference of the first layer's projections computes. -/

namespace Cert.ProjRefIdeal.Mine

open Cert.ProjRefIdeal Cert.ProjRefIdeal.Gen Idealize.ShloMosaic Idealize.ShloMosaic.TcCoe Idealize.SL.Sem Cert.Layer
open Cert.ProjIdeal.Mine (proj queries compressed selected gates)

variable (m : (ℓ : Loc nD τ sig) → Buf (Elt Ideal) ℓ) (ρ : Dev nD → PrngReg)

/-- The product with the matrix. -/
theorem product (A : FVec Ideal S65536x1024 .f32) (W : FVec Ideal S1x1024x2608 .f32) (r : Fin 65536) (q : Fin 2608) :
    Host.dotGeneral dot_S65536x1024_S1024x2608_S65536x2608_1_0_0_1_n_n none A
        (shapeCast _ W shapeCasts_S1x1024x2608_S1024x2608) (ix2 r q)
      = dot (fun k => A (ix2 r k)) (fun k => W (ix3 0 k q)) := by
  pointwise [dot]

/-- The mixing gains' first row. -/
theorem gain (G : FVec Ideal S2x1024 .f32) (k : Fin 1024) :
    shapeCast S1024 (extractStridedSlice S1x1024 ![0, 0] G slices_S2x1024_S1x1024_0_0) shapeCasts_S1x1024_S1024 (ix1 k)
      = G (ix2 0 k) := by
  pointwise

/-- The scaled first columns of a product. -/
theorem part0 (P : FVec Ideal S65536x2608 .f32) (r : Fin 65536) (q : Fin 1024) :
    truncf .bf16 (mulf (extractStridedSlice S65536x1024 ![0, 0] P slices_S65536x2608_S65536x1024_0_0)
        (broadcastInDim S65536x1024 ![] bcast_S_S65536x1024 (constant (F := Ideal) S_ .f32 0x3E000000#32))) bitsLt_bf16_f32 (ix2 r q)
      = P (ix2 r ⟨q.val, by omega⟩) * eighth := by
  pointwise [eighth]

/-- The next columns. -/
theorem part1 (P : FVec Ideal S65536x2608 .f32) (r : Fin 65536) (q : Fin 512) :
    truncf .bf16 (extractStridedSlice S65536x512 ![0, 1024] P slices_S65536x2608_S65536x512_0_1024) bitsLt_bf16_f32 (ix2 r q)
      = P (ix2 r ⟨1024 + q.val, by omega⟩) := by
  pointwise

/-- The columns after those. -/
theorem part2 (P : FVec Ideal S65536x2608 .f32) (r : Fin 65536) (q : Fin 1024) :
    truncf .bf16 (extractStridedSlice S65536x1024 ![0, 1536] P slices_S65536x2608_S65536x1024_0_1536) bitsLt_bf16_f32 (ix2 r q)
      = P (ix2 r ⟨1536 + q.val, by omega⟩) := by
  pointwise

/-- The last columns, filled up with zeros. -/
theorem part3 (P : FVec Ideal S65536x2608 .f32) (r : Fin 65536) (q : Fin 128) :
    pad S65536x128 ![0, 0] ![0, 80] ![0, 0] (extractStridedSlice S65536x48 ![0, 2560] P slices_S65536x2608_S65536x48_0_2560)
        (sitofp (F := Ideal) .f32 (constantI S_ 32 0#32)) pads_S65536x48_S65536x128_000_0800 h_S_ (ix2 r q)
      = if h : q.val < 48 then P (ix2 r ⟨2560 + q.val, by omega⟩) else (0 : EReal) := by
  rw [padded]
  refine dite_congr rfl (fun h => ?_) fun _ => rfl
  pointwise

/-- The product of the normed rows with the matrix is `proj`. -/
theorem projected (X : FVec Ideal S65536x1024 .f32) (G : FVec Ideal S2x1024 .f32) (W : FVec Ideal S1x1024x2608 .f32)
    (r : Fin 65536) (q : Fin 2608) :
    Host.dotGeneral dot_S65536x1024_S1024x2608_S65536x2608_1_0_0_1_n_n none (mulf (mulf X (broadcastInDim S65536x1024 ![0, 1] bcast_S65536x1_S65536x1024_0_1 (Host.rsqrt (addf (Host.divf (broadcastInDim S65536x1 ![0] bcast_S65536_S65536x1_0 (Host.reduceAdd (mulf X X) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ (extractStridedSlice S1x1024 ![0, 0] G slices_S2x1024_S1x1024_0_0) shapeCasts_S1x1024_S1024))))
        (shapeCast _ W shapeCasts_S1x1024x2608_S1024x2608) (ix2 r q) = proj X G W r q := by
  refine (product _ _ _ _).trans (congrArg₂ dot (funext fun k => (ref_normed X _ _ k).trans ?_) rfl)
  exact congrFun (congrArg₂ normed rfl (funext fun k => gain G k)) k

/-- The reference ends with `queries`, `compressed`, `selected` and `gates` of its arguments. -/
theorem run : θ_run defs (onTc (τ := τ) (main (F := Ideal))) ⟨m, fun _ => 0, ρ⟩ fun r => ∀ c : Dev nD,
      r.2.mem ((c.tc : Thread nD τ).loc main_v24) = queries (m ((c.tc : Thread nD τ).loc main_arg0))
        (m ((c.tc : Thread nD τ).loc main_arg1)) (m ((c.tc : Thread nD τ).loc main_arg2))
      ∧ r.2.mem ((c.tc : Thread nD τ).loc main_v25) = compressed (m ((c.tc : Thread nD τ).loc main_arg0))
        (m ((c.tc : Thread nD τ).loc main_arg1)) (m ((c.tc : Thread nD τ).loc main_arg2))
      ∧ r.2.mem ((c.tc : Thread nD τ).loc main_v26) = selected (m ((c.tc : Thread nD τ).loc main_arg0))
        (m ((c.tc : Thread nD τ).loc main_arg1)) (m ((c.tc : Thread nD τ).loc main_arg2))
      ∧ r.2.mem ((c.tc : Thread nD τ).loc main_v21) = gates (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_,
    (h c).2.2.2.1.trans ?_, (h c).2.2.2.2⟩) (Value.run m ρ)
  · generalize m ((c.tc : Thread nD τ).loc main_arg0) = X, m ((c.tc : Thread nD τ).loc main_arg1) = G,
      m ((c.tc : Thread nD τ).loc main_arg2) = W
    funext i
    idx_vars i
    exact (part0 _ _ _).trans (congrArg (· * eighth) (projected X G W _ _))
  · generalize m ((c.tc : Thread nD τ).loc main_arg0) = X, m ((c.tc : Thread nD τ).loc main_arg1) = G,
      m ((c.tc : Thread nD τ).loc main_arg2) = W
    funext i
    idx_vars i
    exact (part1 _ _ _).trans (projected X G W _ _)
  · generalize m ((c.tc : Thread nD τ).loc main_arg0) = X, m ((c.tc : Thread nD τ).loc main_arg1) = G,
      m ((c.tc : Thread nD τ).loc main_arg2) = W
    funext i
    idx_vars i
    exact (part2 _ _ _).trans (projected X G W _ _)
  · generalize m ((c.tc : Thread nD τ).loc main_arg0) = X, m ((c.tc : Thread nD τ).loc main_arg1) = G,
      m ((c.tc : Thread nD τ).loc main_arg2) = W
    funext i
    idx_vars i
    exact (part3 _ _ _).trans (dite_congr rfl (fun h => projected X G W _ _) fun _ => rfl)

end Cert.ProjRefIdeal.Mine
-- ==== Proof.ProjEq.lean ====
module

public import proofs.«01_k».proof.Defs
public import proofs.«01_k».proof.Proof.ProjRef

@[expose] public section

set_option maxRecDepth 16384

noncomputable section

/-! The first layer's projection call computes what its reference does. -/

namespace Cert.ProjIdeal.Mine

open Idealize.ShloMosaic Idealize.ShloMosaic.TcCoe Idealize.SL.Sem

/-- Kernel and reference end with equal results. -/
theorem equal : algebraic_ProjIdeal_ProjRefIdeal (hProjIdeal := Cert.ProjIdeal.Gen.facts)
    (hProjRefIdeal := Cert.ProjRefIdeal.Gen.facts) := by
  pair_intro
  · run_from Cert.ProjIdeal.Gen.frame m g & Cert.ProjIdeal.Gen.run_main m g
    · exact Gen.V_main_arg1 m c
    · exact Gen.V_main_arg2 m c
  · run_from Cert.ProjRefIdeal.Mine.run m' g'
    · exact (final6 m c).symm
    · exact (final7 m c).symm
    · exact (final8 m c).symm
    · exact (final9 m c).symm

end Cert.ProjIdeal.Mine
-- ==== Proof.ProjKvBlock.lean ====
module

public import proofs.«01_k».proof.Proof.Gen.ProjKvIdeal.Frame
public import proofs.«01_k».proof.Proof.Spec

@[expose] public section

set_option maxRecDepth 16384

noncomputable section

/-! What one grid point of the second layer's projection call stores: its blocks of queries and of keys and values. -/

namespace Cert.ProjKvIdeal.Mine

open Cert.ProjKvIdeal Cert.ProjKvIdeal.Gen Idealize.ShloMosaic Idealize.ShloMosaic.TcCoe Idealize.SL.Sem Cert.Layer

/-- The block of queries: each row, normed with the first gain, times the columns of the first matrix. -/
theorem block4 (x0 : Vec Ideal S512x1024 .f32) (x1 : Vec Ideal S2x1024 .f32) (x2 : Vec Ideal S1024x3072 .bf16)
    (x3 : Vec Ideal S1024x1536 .bf16) (y : S512x3072.Idx) :
    out0_4 x0 x1 x2 x3 y
      = dot (normed (fun k => x0 (ix2 (y 0) k)) (fun k => x1 (ix2 0 k))) (fun k => x2 (ix2 k (y 1))) := by
  unfold out0_4
  canon_tiles x h
  all_goals
    pointwise [k0_pay1, k0_pay4, k0_pay5, k0_pay6, k0_pay7, k0_pay8, k0_pay9, k0_pay14, k0_pay3, k0_pay2, dot, normed, rootMs]
    blk_point []

/-- The block of keys and values: each row, normed with the second gain, times the columns of the second matrix. -/
theorem block5 (x0 : Vec Ideal S512x1024 .f32) (x1 : Vec Ideal S2x1024 .f32) (x2 : Vec Ideal S1024x3072 .bf16)
    (x3 : Vec Ideal S1024x1536 .bf16) (y : S512x1536.Idx) :
    out0_5 x0 x1 x2 x3 y
      = dot (normed (fun k => x0 (ix2 (y 0) k)) (fun k => x1 (ix2 1 k))) (fun k => x3 (ix2 k (y 1))) := by
  unfold out0_5
  canon_tiles x h
  all_goals
    pointwise [k0_pay1, k0_pay10, k0_pay11, k0_pay12, k0_pay13, k0_pay2, dot, normed, rootMs]
    blk_point []

end Cert.ProjKvIdeal.Mine
-- ==== Proof.ProjKvArray.lean ====
module

public import proofs.«01_k».proof.Proof.ProjKvBlock
public import proofs.«01_k».proof.Proof.Spec

@[expose] public section

set_option maxRecDepth 16384

noncomputable section

/-! What the result arrays of the second layer's projection call hold after the run. -/

namespace Cert.ProjKvIdeal.Mine

open Cert.ProjKvIdeal Cert.ProjKvIdeal.Gen Idealize.ShloMosaic Idealize.ShloMosaic.TcCoe Idealize.SL.Sem Cert.Layer
open Idealize.ShloMosaic.Pipeline (Dat)

variable (m : (ℓ : Loc nD τ sig) → Buf (Elt Ideal) ℓ)

/-- The block index of every window at every grid point. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The queries: each row normed with the second mixing gain, times the matrix, times `1/8`. -/
def queries (X : FVec Ideal S65536x1024 .f32) (G : FVec Ideal S2x1024 .f32) (W : FVec Ideal S1x1024x3072 .f32) :
    FVec Ideal S65536x3072 .bf16 :=
  fun i => dot (normed (fun k => X (ix2 (i 0) k)) (fun k => G (ix2 1 k))) (fun k => W (ix3 0 k (i 1))) * eighth

/-- The keys and values: each row normed with the shared gain, times the matrix. -/
def keysValues (X : FVec Ideal S65536x1024 .f32) (G : FVec Ideal S1024 .f32) (W : FVec Ideal S1024x1536 .f32) :
    FVec Ideal S65536x1536 .bf16 :=
  fun i => dot (normed (fun k => X (ix2 (i 0) k)) (fun k => G (ix1 k))) (fun k => W (ix2 k (i 1)))

/-- The block of rows at a grid point, read off the argument. -/
theorem rows (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  blk_ext [iblk, V, idx_val t]

/-- The first gain is the second row of the mixing gains. -/
theorem gain0 (c : Dev nD) (t : Fin cfg0.N) (k : Fin 1024) :
    iblk m c 1 t (ix2 0 k) = m ((c : Thread nD τ).loc main_arg1) (ix2 1 k) := by
  have e : iblk m c 1 t (ix2 0 k) = V m c main_v4 (ix2 0 k) := by blk_ext [iblk, idx_val t]
  rw [e]
  entry_read
  pointwise

/-- The second gain is the shared one. -/
theorem gain1 (c : Dev nD) (t : Fin cfg0.N) (k : Fin 1024) :
    iblk m c 1 t (ix2 1 k) = m ((c : Thread nD τ).loc main_arg2) (ix1 k) := by
  have e : iblk m c 1 t (ix2 1 k) = V m c main_v4 (ix2 1 k) := by blk_ext [iblk, idx_val t]
  rw [e]
  entry_read
  pointwise

/-- The first matrix is the queries' matrix times `1/8`. -/
theorem matrix0 (c : Dev nD) (t : Fin cfg0.N) (k : Fin 1024) (q : Fin 3072) :
    iblk m c 2 t (ix2 k q) = (show EReal from m ((c : Thread nD τ).loc main_arg3) (ix3 0 k q)) * eighth := by
  have e : iblk m c 2 t (ix2 k q) = V m c main_v8 (ix2 k q) := by blk_ext [iblk, idx_val t]
  rw [e]
  entry_read
  pointwise [eighth]

/-- The second matrix is the keys' and values'. -/
theorem matrix1 (c : Dev nD) (t : Fin cfg0.N) (k : Fin 1024) (q : Fin 1536) :
    iblk m c 3 t (ix2 k q) = m ((c : Thread nD τ).loc main_arg4) (ix2 k q) := by
  have e : iblk m c 3 t (ix2 k q) = V m c main_v9 (ix2 k q) := by blk_ext [iblk, idx_val t]
  rw [e]
  entry_read
  pointwise

/-- What a grid point stores of the queries is its part of `queries`. -/
theorem point4 (c : Dev nD) (t : Fin cfg0.N) (y) :
    out0_4 (iblk m c 0 t) (iblk m c 1 t) (iblk m c 2 t) (iblk m c 3 t) y
      = queries (m ((c : Thread nD τ).loc main_arg0)) (m ((c : Thread nD τ).loc main_arg1))
          (m ((c : Thread nD τ).loc main_arg3)) (((cfg0.win 4).blk t).view.emb y) := by
  refine (block4 _ _ _ _ _).trans ?_
  unfold queries
  rw [← dot_eighth]
  refine congrArg₂ dot (congrArg₂ normed (funext fun k => rows m c t _ k _ ?_) (funext fun k => gain0 m c t k))
    (funext fun k => (matrix0 m c t k _).trans ?_)
  · blk_simp [idx_val t]
  · refine congrArg (· * eighth) ?_
    blk_ext [idx_val t]

/-- What a grid point stores of the keys and values is its part of `keysValues`. -/
theorem point5 (c : Dev nD) (t : Fin cfg0.N) (y) :
    out0_5 (iblk m c 0 t) (iblk m c 1 t) (iblk m c 2 t) (iblk m c 3 t) y
      = keysValues (m ((c : Thread nD τ).loc main_arg0)) (m ((c : Thread nD τ).loc main_arg2))
          (m ((c : Thread nD τ).loc main_arg4)) (((cfg0.win 5).blk t).view.emb y) := by
  refine (block5 _ _ _ _ _).trans ?_
  unfold keysValues
  refine congrArg₂ dot (congrArg₂ normed (funext fun k => rows m c t _ k _ ?_) (funext fun k => gain1 m c t k))
    (funext fun k => (matrix1 m c t k _).trans ?_)
  · blk_simp [idx_val t]
  · blk_ext [idx_val t]

/-- After the run the first result array is `queries` of the arguments. -/
theorem final4 (c : Dev nD) : (dats m 0 c).arrAt 4 (cfgs 0).N
    = queries (m ((c : Thread nD τ).loc main_arg0)) (m ((c : Thread nD τ).loc main_arg1))
          (m ((c : Thread nD τ).loc main_arg3)) := by
  refine (dats m 0 c).arrAt_eq_of_covers 4 _ (by decide +kernel) fun t _ y => ?_
  blk_simp
  rw [after0_4]
  exact point4 m c t y

/-- After the run the second result array is `keysValues` of the arguments. -/
theorem final5 (c : Dev nD) : (dats m 0 c).arrAt 5 (cfgs 0).N
    = keysValues (m ((c : Thread nD τ).loc main_arg0)) (m ((c : Thread nD τ).loc main_arg2))
          (m ((c : Thread nD τ).loc main_arg4)) := by
  refine (dats m 0 c).arrAt_eq_of_covers 5 _ (by decide +kernel) fun t _ y => ?_
  blk_simp
  rw [after0_5]
  exact point5 m c t y

end Cert.ProjKvIdeal.Mine
-- ==== Proof.ProjKvRef.lean ====
module

public import proofs.«01_k».proof.Proof.Gen.ProjKvRefIdeal.Run
public import proofs.«01_k».proof.Proof.ProjKvArray
public import proofs.«01_k».proof.Proof.RefNorm
public import proofs.«01_k».proof.Proof.Spec

@[expose] public section

set_option maxRecDepth 16384

noncomputable section

/-! What the reference of the second layer's projections computes. -/

namespace Cert.ProjKvRefIdeal.Mine

open Cert.ProjKvRefIdeal Cert.ProjKvRefIdeal.Gen Idealize.ShloMosaic Idealize.ShloMosaic.TcCoe Idealize.SL.Sem Cert.Layer
open Cert.ProjKvIdeal.Mine (queries keysValues)

variable (m : (ℓ : Loc nD τ sig) → Buf (Elt Ideal) ℓ) (ρ : Dev nD → PrngReg)

/-- The product with the first matrix, times `1/8`. -/
theorem dot0 (A : FVec Ideal S65536x1024 .f32) (W : FVec Ideal S1x1024x3072 .f32) (r : Fin 65536) (q : Fin 3072) :
    truncf .bf16 (mulf (Host.dotGeneral dot_S65536x1024_S1024x3072_S65536x3072_1_0_0_1_n_n none A
        (shapeCast _ W shapeCasts_S1x1024x3072_S1024x3072))
        (broadcastInDim S65536x3072 ![] bcast_S_S65536x3072 (constant (F := Ideal) S_ .f32 0x3E000000#32))) bitsLt_bf16_f32 (ix2 r q)
      = dot (fun k => A (ix2 r k)) (fun k => W (ix3 0 k q)) * eighth := by
  pointwise [dot, eighth]

/-- The product with the second matrix. -/
theorem dot1 (A : FVec Ideal S65536x1024 .f32) (W : FVec Ideal S1024x1536 .f32) (r : Fin 65536) (q : Fin 1536) :
    truncf .bf16 (Host.dotGeneral dot_S65536x1024_S1024x1536_S65536x1536_1_0_0_1_n_n none A W) bitsLt_bf16_f32 (ix2 r q)
      = dot (fun k => A (ix2 r k)) (fun k => W (ix2 k q)) := by
  pointwise [dot]

/-- The mixing gains' second row. -/
theorem gain (G : FVec Ideal S2x1024 .f32) (k : Fin 1024) :
    shapeCast S1024 (extractStridedSlice S1x1024 ![1, 0] G slices_S2x1024_S1x1024_1_0) shapeCasts_S1x1024_S1024 (ix1 k)
      = G (ix2 1 k) := by
  pointwise

/-- The reference ends with `queries` and `keysValues` of its arguments. -/
theorem run : θ_run defs (onTc (τ := τ) (main (F := Ideal))) ⟨m, fun _ => 0, ρ⟩ fun r => ∀ c : Dev nD,
      r.2.mem ((c.tc : Thread nD τ).loc main_v33) = queries (m ((c.tc : Thread nD τ).loc main_arg0))
        (m ((c.tc : Thread nD τ).loc main_arg1)) (m ((c.tc : Thread nD τ).loc main_arg3))
      ∧ r.2.mem ((c.tc : Thread nD τ).loc main_v34) = keysValues (m ((c.tc : Thread nD τ).loc main_arg0))
        (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Value.run m ρ)
  · generalize m ((c.tc : Thread nD τ).loc main_arg0) = X, m ((c.tc : Thread nD τ).loc main_arg1) = G,
      m ((c.tc : Thread nD τ).loc main_arg3) = W
    funext i
    idx_vars i
    refine (dot0 _ _ _ _).trans (congrArg (· * eighth) (congrArg₂ dot (funext fun k => (ref_normed X _ _ k).trans ?_) rfl))
    exact congrFun (congrArg₂ normed rfl (funext fun k => gain G k)) k
  · generalize m ((c.tc : Thread nD τ).loc main_arg0) = X, m ((c.tc : Thread nD τ).loc main_arg2) = G,
      m ((c.tc : Thread nD τ).loc main_arg4) = W
    funext i
    idx_vars i
    exact (dot1 _ _ _ _).trans (congrArg₂ dot (funext fun k => ref_normed X _ _ k) rfl)

end Cert.ProjKvRefIdeal.Mine
-- ==== Proof.ProjKvEq.lean ====
module

public import proofs.«01_k».proof.Defs
public import proofs.«01_k».proof.Proof.ProjKvRef

@[expose] public section

set_option maxRecDepth 16384

noncomputable section

/-! The second layer's projection call computes what its reference does. -/

namespace Cert.ProjKvIdeal.Mine

open Idealize.ShloMosaic Idealize.ShloMosaic.TcCoe Idealize.SL.Sem

/-- Kernel and reference end with equal queries and equal keys and values. -/
theorem equal : algebraic_ProjKvIdeal_ProjKvRefIdeal (hProjKvIdeal := Cert.ProjKvIdeal.Gen.facts)
    (hProjKvRefIdeal := Cert.ProjKvRefIdeal.Gen.facts) := by
  pair_intro
  · run_from Cert.ProjKvIdeal.Gen.frame m g & Cert.ProjKvIdeal.Gen.run_main m g
  · run_from Cert.ProjKvRefIdeal.Mine.run m' g'
    · exact (final4 m c).symm
    · exact (final5 m c).symm

end Cert.ProjKvIdeal.Mine
-- ==== Proof.lean ====
module

public import proofs.«01_k».proof.Defs
public import proofs.«01_k».proof.Proof.DilFrameBits
public import proofs.«01_k».proof.Proof.DilEq
public import proofs.«01_k».proof.Proof.Gen.Post.Frame
public import proofs.«01_k».proof.Proof.PostEq
public import proofs.«01_k».proof.Proof.Gen.Final.Frame
public import proofs.«01_k».proof.Proof.FinalEq
public import proofs.«01_k».proof.Proof.Gen.Proj.Frame
public import proofs.«01_k».proof.Proof.ProjEq
public import proofs.«01_k».proof.Proof.Gen.ProjKv.Frame
public import proofs.«01_k».proof.Proof.ProjKvEq
public import Idealize.ShloMosaic.Adequacy
public import Idealize.ShloMosaic.Init

@[expose] public section

set_option maxRecDepth 16384

/-! Every claim about every call: each program ends without fault and leaves its arguments as they were, the ideal
program is the kernel over the extended reals, and kernel and reference end with equal results. -/

namespace Cert.Proof

open Idealize.ShloMosaic Idealize.ShloMosaic.TcCoe Idealize.SL.Sem

/-- All the claims. -/
theorem claim : Cert.Claim :=
  ⟨Cert.Dil.Gen.facts, Cert.DilIdeal.Gen.facts, Cert.DilRefIdeal.Gen.facts, Cert.Post.Gen.facts, Cert.PostIdeal.Gen.facts, Cert.PostRefIdeal.Gen.facts, Cert.Final.Gen.facts, Cert.FinalIdeal.Gen.facts, Cert.FinalRefIdeal.Gen.facts, Cert.Proj.Gen.facts, Cert.ProjIdeal.Gen.facts, Cert.ProjRefIdeal.Gen.facts, Cert.ProjKv.Gen.facts, Cert.ProjKvIdeal.Gen.facts, Cert.ProjKvRefIdeal.Gen.facts,
    fun m ρ _ => Cert.Dil.Mine.frame m ρ,
    fun m ρ _ => Cert.DilIdeal.Mine.frame m ρ,
    fun m ρ _ => (θ_run Cert.DilRefIdeal.defs _ _).mono
      (fun r h => ⟨fun c => (h c).2.2, sem_eq_zero_of_no_sems (by decide) r.2⟩) (Cert.DilRefIdeal.Value.run m ρ),
    fun m ρ _ => Cert.Post.Gen.frame m ρ,
    fun m ρ _ => Cert.PostIdeal.Gen.frame m ρ,
    fun m ρ _ => (θ_run Cert.PostRefIdeal.defs _ _).mono
      (fun r h => ⟨fun c => (h c).2, sem_eq_zero_of_no_sems (by decide) r.2⟩) (Cert.PostRefIdeal.Value.run m ρ),
    fun m ρ _ => Cert.Final.Gen.frame m ρ,
    fun m ρ _ => Cert.FinalIdeal.Gen.frame m ρ,
    fun m ρ _ => (θ_run Cert.FinalRefIdeal.defs _ _).mono
      (fun r h => ⟨fun c => (h c).2, sem_eq_zero_of_no_sems (by decide) r.2⟩) (Cert.FinalRefIdeal.Value.run m ρ),
    fun m ρ _ => Cert.Proj.Gen.frame m ρ,
    fun m ρ _ => Cert.ProjIdeal.Gen.frame m ρ,
    fun m ρ _ => (θ_run Cert.ProjRefIdeal.defs _ _).mono
      (fun r h => ⟨fun c => (h c).2.2.2.2, sem_eq_zero_of_no_sems (by decide) r.2⟩) (Cert.ProjRefIdeal.Value.run m ρ),
    fun m ρ _ => Cert.ProjKv.Gen.frame m ρ,
    fun m ρ _ => Cert.ProjKvIdeal.Gen.frame m ρ,
    fun m ρ _ => (θ_run Cert.ProjKvRefIdeal.defs _ _).mono
      (fun r h => ⟨fun c => (h c).2.2, sem_eq_zero_of_no_sems (by decide) r.2⟩) (Cert.ProjKvRefIdeal.Value.run m ρ),
    trivial,
    Cert.DilIdeal.Mine.equal,
    trivial,
    Cert.PostIdeal.Mine.equal,
    trivial,
    Cert.FinalIdeal.Mine.equal,
    trivial,
    Cert.ProjIdeal.Mine.equal,
    trivial,
    Cert.ProjKvIdeal.Mine.equal⟩

end Cert.Proof
